-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_fp8_max" .f32 0x3B124925#32 ((1 / 448 : ℝ) : EReal)
  ∧ IdealRules.named_const.Statement Cert.KernelIdeal.κ "inv_ln2" .f32 0x3FB8AA3B#32 (((Real.log 2)⁻¹ : ℝ) : EReal)
  ∧ IdealRules.bf16_pair.Statement Cert.KernelIdeal.S128x128 Cert.KernelIdeal.S64x128
  ∧ IdealRules.named_const.Statement Cert.KernelIdeal.κ "to_cap" .f32 0x3AE7B46A#32 (((Real.sqrt 128)⁻¹ * (1 / 50) : ℝ) : EReal)
  ∧ IdealRules.named_const.Statement Cert.KernelIdeal.κ "to_exp2" .f32 0x429044FE#32 ((50 * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v184) = v0 c
          ∧ r.2.mem ((c.tc : Thread Cert.ReferenceIdeal.nD Cert.ReferenceIdeal.τ).loc Cert.ReferenceIdeal.main_v188_0) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_v188_1) = v3 c
          ∧ r.2.mem ((c.tc : Thread Cert.ReferenceIdeal.nD Cert.ReferenceIdeal.τ).loc Cert.ReferenceIdeal.main_v65) = v4 c
          ∧ r.2.mem ((c.tc : Thread Cert.ReferenceIdeal.nD Cert.ReferenceIdeal.τ).loc Cert.ReferenceIdeal.main_v188_2) = v5 c
          ∧ r.2.mem ((c.tc : Thread Cert.ReferenceIdeal.nD Cert.ReferenceIdeal.τ).loc Cert.ReferenceIdeal.main_v98) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x896x4096 : Shape := ⟨3, ![2, 896, 4096]⟩
abbrev S2x896x1024 : Shape := ⟨3, ![2, 896, 1024]⟩
abbrev S2x896x128 : Shape := ⟨3, ![2, 896, 128]⟩
abbrev S2x896x32 : Shape := ⟨3, ![2, 896, 32]⟩
abbrev S2x896x8 : Shape := ⟨3, ![2, 896, 8]⟩
abbrev S1x896x512 : Shape := ⟨3, ![1, 896, 512]⟩
abbrev S1x896x128 : Shape := ⟨3, ![1, 896, 128]⟩
abbrev S1x896x32 : Shape := ⟨3, ![1, 896, 32]⟩
abbrev S1x896x8 : Shape := ⟨3, ![1, 896, 8]⟩
abbrev S3584x128 : Shape := ⟨2, ![3584, 128]⟩
abbrev S896x128 : Shape := ⟨2, ![896, 128]⟩
abbrev S128x896 : Shape := ⟨2, ![128, 896]⟩
abbrev S896x256 : Shape := ⟨2, ![896, 256]⟩
abbrev S128x128 : Shape := ⟨2, ![128, 128]⟩
abbrev S1x128x128 : Shape := ⟨3, ![1, 128, 128]⟩
abbrev S1x128x32 : Shape := ⟨3, ![1, 128, 32]⟩
abbrev S128x32 : Shape := ⟨2, ![128, 32]⟩
abbrev S32x128 : Shape := ⟨2, ![32, 128]⟩
abbrev S64x128 : Shape := ⟨2, ![64, 128]⟩
abbrev S128x8 : Shape := ⟨2, ![128, 8]⟩
abbrev S1x128x8 : Shape := ⟨3, ![1, 128, 8]⟩
abbrev S64x256 : Shape := ⟨2, ![64, 256]⟩
abbrev S256x128 : Shape := ⟨2, ![256, 128]⟩
abbrev S1x256 : Shape := ⟨2, ![1, 256]⟩
abbrev S256 : Shape := ⟨1, ![256]⟩
abbrev S128x64 : Shape := ⟨2, ![128, 64]⟩
abbrev S128x256 : Shape := ⟨2, ![128, 256]⟩
abbrev S1x32x128 : Shape := ⟨3, ![1, 32, 128]⟩
abbrev S192x256 : Shape := ⟨2, ![192, 256]⟩
abbrev S128x192 : Shape := ⟨2, ![128, 192]⟩
abbrev S256x256 : Shape := ⟨2, ![256, 256]⟩
abbrev S320x256 : Shape := ⟨2, ![320, 256]⟩
abbrev S128x320 : Shape := ⟨2, ![128, 320]⟩
abbrev S384x256 : Shape := ⟨2, ![384, 256]⟩
abbrev S128x384 : Shape := ⟨2, ![128, 384]⟩
abbrev S448x256 : Shape := ⟨2, ![448, 256]⟩
abbrev S128x448 : Shape := ⟨2, ![128, 448]⟩
abbrev S512x256 : Shape := ⟨2, ![512, 256]⟩
abbrev S128x512 : Shape := ⟨2, ![128, 512]⟩
abbrev S576x256 : Shape := ⟨2, ![576, 256]⟩
abbrev S128x576 : Shape := ⟨2, ![128, 576]⟩
abbrev S640x256 : Shape := ⟨2, ![640, 256]⟩
abbrev S128x640 : Shape := ⟨2, ![128, 640]⟩
abbrev S704x256 : Shape := ⟨2, ![704, 256]⟩
abbrev S128x704 : Shape := ⟨2, ![128, 704]⟩
abbrev S768x256 : Shape := ⟨2, ![768, 256]⟩
abbrev S128x768 : Shape := ⟨2, ![128, 768]⟩
abbrev S832x256 : Shape := ⟨2, ![832, 256]⟩
abbrev S128x832 : Shape := ⟨2, ![128, 832]⟩

abbrev nBuf : Space → Nat
  | .hbm => 10
  | .vmem => 25
  | .smem => 0
  | _ => 0

abbrev bufTy : (tb : Table) → Fin (tcTables nBuf tb) → BufTy
  | .hbm, ⟨0, _⟩ => ⟨S2x896x4096, .bf16⟩
  | .hbm, ⟨1, _⟩ => ⟨S2x896x1024, .bf16⟩
  | .hbm, ⟨2, _⟩ => ⟨S2x896x1024, .bf16⟩
  | .hbm, ⟨3, _⟩ => ⟨S2x896x4096, .bf16⟩
  | .hbm, ⟨4, _⟩ => ⟨S2x896x4096, .fp8e4m3⟩
  | .hbm, ⟨5, _⟩ => ⟨S2x896x128, .f32⟩
  | .hbm, ⟨6, _⟩ => ⟨S2x896x1024, .fp8e4m3⟩
  | .hbm, ⟨7, _⟩ => ⟨S2x896x32, .f32⟩
  | .hbm, ⟨8, _⟩ => ⟨S2x896x1024, .fp8e4m3⟩
  | .hbm, ⟨9, _⟩ => ⟨S2x896x8, .f32⟩
  | .local _ .vmem, ⟨0, _⟩ => ⟨S1x896x512, .bf16⟩
  | .local _ .vmem, ⟨1, _⟩ => ⟨S1x896x512, .bf16⟩
  | .local _ .vmem, ⟨2, _⟩ => ⟨S1x896x128, .bf16⟩
  | .local _ .vmem, ⟨3, _⟩ => ⟨S1x896x128, .bf16⟩
  | .local _ .vmem, ⟨4, _⟩ => ⟨S1x896x128, .bf16⟩
  | .local _ .vmem, ⟨5, _⟩ => ⟨S1x896x128, .bf16⟩
  | .local _ .vmem, ⟨6, _⟩ => ⟨S1x896x512, .bf16⟩
  | .local _ .vmem, ⟨7, _⟩ => ⟨S1x896x512, .bf16⟩
  | .local _ .vmem, ⟨8, _⟩ => ⟨S1x896x512, .fp8e4m3⟩
  | .local _ .vmem, ⟨9, _⟩ => ⟨S1x896x512, .fp8e4m3⟩
  | .local _ .vmem, ⟨10, _⟩ => ⟨S1x896x128, .f32⟩
  | .local _ .vmem, ⟨11, _⟩ => ⟨S1x896x128, .f32⟩
  | .local _ .vmem, ⟨12, _⟩ => ⟨S1x896x128, .fp8e4m3⟩
  | .local _ .vmem, ⟨13, _⟩ => ⟨S1x896x128, .fp8e4m3⟩
  | .local _ .vmem, ⟨14, _⟩ => ⟨S1x896x32, .f32⟩
  | .local _ .vmem, ⟨15, _⟩ => ⟨S1x896x32, .f32⟩
  | .local _ .vmem, ⟨16, _⟩ => ⟨S1x896x128, .fp8e4m3⟩
  | .local _ .vmem, ⟨17, _⟩ => ⟨S1x896x128, .fp8e4m3⟩
  | .local _ .vmem, ⟨18, _⟩ => ⟨S1x896x8, .f32⟩
  | .local _ .vmem, ⟨19, _⟩ => ⟨S1x896x8, .f32⟩
  | .local _ .vmem, ⟨20, _⟩ => ⟨S3584x128, .bf16⟩
  | .local _ .vmem, ⟨21, _⟩ => ⟨S896x128, .bf16⟩
  | .local _ .vmem, ⟨22, _⟩ => ⟨S128x896, .fp8e4m3⟩
  | .local _ .vmem, ⟨23, _⟩ => ⟨S896x128, .f32⟩
  | .local _ .vmem, ⟨24, _⟩ => ⟨S896x256, .f32⟩
  | _, _ => ⟨S2x896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [BitOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x896x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x896x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x896x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x896x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x896x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x896x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x896x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x896x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x896x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x896x8 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
variable {F : FTy → Type} [FloatOps F] [Named F]
def κ : String → Option EReal := fun
  | "inv_fp8_max" => some ((1 / 448 : ℝ) : EReal)
  | "inv_ln2" => some (((Real.log 2)⁻¹ : ℝ) : EReal)
  | "to_cap" => some (((Real.sqrt 128)⁻¹ * (1 / 50) : ℝ) : EReal)
  | "to_exp2" => some ((50 * (Real.log 2)⁻¹ : ℝ) : EReal)
  | _ => none
-- ==== ReferenceIdeal.lean ====
abbrev S2x896x4096 : Shape := ⟨3, ![2, 896, 4096]⟩
abbrev S2x896x1024 : Shape := ⟨3, ![2, 896, 1024]⟩
abbrev S2x896x128x32 : Shape := ⟨4, ![2, 896, 128, 32]⟩
abbrev S_ : Shape := ⟨0, ![]⟩
abbrev S2x896x128 : Shape := ⟨3, ![2, 896, 128]⟩
abbrev S2x896x128x1 : Shape := ⟨4, ![2, 896, 128, 1]⟩
abbrev S2x896x32x32 : Shape := ⟨4, ![2, 896, 32, 32]⟩
abbrev S2x896x32 : Shape := ⟨3, ![2, 896, 32]⟩
abbrev S2x896x32x1 : Shape := ⟨4, ![2, 896, 32, 1]⟩
abbrev S2x896x8x128 : Shape := ⟨4, ![2, 896, 8, 128]⟩
abbrev S2x896x8 : Shape := ⟨3, ![2, 896, 8]⟩
abbrev S2x896x8x1 : Shape := ⟨4, ![2, 896, 8, 1]⟩
abbrev S2x8x896x128 : Shape := ⟨4, ![2, 8, 896, 128]⟩
abbrev S2x896x8x4x128 : Shape := ⟨5, ![2, 896, 8, 4, 128]⟩
abbrev S2x8x4x896x128 : Shape := ⟨5, ![2, 8, 4, 896, 128]⟩
abbrev S2x8x896 : Shape := ⟨3, ![2, 8, 896]⟩
abbrev S2x8x4x896x896 : Shape := ⟨5, ![2, 8, 4, 896, 896]⟩
abbrev S896 : Shape := ⟨1, ![896]⟩
abbrev S1x896 : Shape := ⟨2, ![1, 896]⟩
abbrev S896x1 : Shape := ⟨2, ![896, 1]⟩
abbrev S896x896 : Shape := ⟨2, ![896, 896]⟩
abbrev S2x8x4x896 : Shape := ⟨4, ![2, 8, 4, 896]⟩
abbrev S2x8x4x896x1 : Shape := ⟨5, ![2, 8, 4, 896, 1]⟩
abbrev S2x8x1x1x896 : Shape := ⟨5, ![2, 8, 1, 1, 896]⟩

abbrev nBuf : Space → Nat
  | .hbm => 279
  | .vmem => 6
  | .smem => 0
  | _ => 0

abbrev hbmTy0_0 (i : Nat) : BufTy := match i % 128 with
  | 0 => ⟨S2x896x4096, .bf16⟩
  | 1 => ⟨S2x896x1024, .bf16⟩
  | 2 => ⟨S2x896x1024, .bf16⟩
  | 3 => ⟨S2x896x4096, .f32⟩
  | 4 => ⟨S2x896x128x32, .f32⟩
  | 5 => ⟨S2x896x128x32, .f32⟩
  | 6 => ⟨S_, .f32⟩
  | 7 => ⟨S2x896x128, .f32⟩
  | 8 => ⟨S2x896x128x1, .f32⟩
  | 9 => ⟨S_, .f32⟩
  | 10 => ⟨S2x896x128x1, .f32⟩
  | 11 => ⟨S2x896x128x1, .f32⟩
  | 12 => ⟨S2x896x128x1, .f32⟩
  | 13 => ⟨S_, .f32⟩
  | 14 => ⟨S_, .f32⟩
  | 15 => ⟨S2x896x128x1, .f32⟩
  | 16 => ⟨S2x896x128x1, .f32⟩
  | 17 => ⟨S2x896x128x1, .f32⟩
  | 18 => ⟨S_, .f32⟩
  | 19 => ⟨S2x896x128x1, .f32⟩
  | 20 => ⟨S2x896x128x1, .f32⟩
  | 21 => ⟨S_, .f32⟩
  | 22 => ⟨S2x896x128x1, .f32⟩
  | 23 => ⟨S2x896x128x1, .i1⟩
  | 24 => ⟨S_, .f32⟩
  | 25 => ⟨S2x896x128x1, .f32⟩
  | 26 => ⟨S2x896x128x1, .i1⟩
  | 27 => ⟨S2x896x128x1, .i1⟩
  | 28 => ⟨S_, .f32⟩
  | 29 => ⟨S_, .f32⟩
  | 30 => ⟨S2x896x128x1, .f32⟩
  | 31 => ⟨S2x896x128x1, .f32⟩
  | 32 => ⟨S2x896x128x1, .f32⟩
  | 33 => ⟨S_, .f32⟩
  | 34 => ⟨S_, .f32⟩
  | 35 => ⟨S2x896x128x1, .f32⟩
  | 36 => ⟨S2x896x128x1, .f32⟩
  | 37 => ⟨S2x896x128x1, .f32⟩
  | 38 => ⟨S2x896x128x32, .f32⟩
  | 39 => ⟨S2x896x128x32, .f32⟩
  | 40 => ⟨S_, .f32⟩
  | 41 => ⟨S_, .f32⟩
  | 42 => ⟨S_, .f32⟩
  | 43 => ⟨S2x896x128x32, .f32⟩
  | 44 => ⟨S2x896x128x32, .f32⟩
  | 45 => ⟨S_, .f32⟩
  | 46 => ⟨S2x896x128x32, .f32⟩
  | 47 => ⟨S2x896x128x32, .f32⟩
  | 48 => ⟨S_, .f32⟩
  | 49 => ⟨S_, .f32⟩
  | 50 => ⟨S2x896x128x1, .f32⟩
  | 51 => ⟨S2x896x128x1, .f32⟩
  | 52 => ⟨S2x896x128x1, .f32⟩
  | 53 => ⟨S2x896x128, .f32⟩
  | 54 => ⟨S2x896x1024, .f32⟩
  | 55 => ⟨S2x896x32x32, .f32⟩
  | 56 => ⟨S2x896x32x32, .f32⟩
  | 57 => ⟨S_, .f32⟩
  | 58 => ⟨S2x896x32, .f32⟩
  | 59 => ⟨S2x896x32x1, .f32⟩
  | 60 => ⟨S_, .f32⟩
  | 61 => ⟨S2x896x32x1, .f32⟩
  | 62 => ⟨S2x896x32x1, .f32⟩
  | 63 => ⟨S2x896x32x1, .f32⟩
  | 64 => ⟨S_, .f32⟩
  | 65 => ⟨S_, .f32⟩
  | 66 => ⟨S2x896x32x1, .f32⟩
  | 67 => ⟨S2x896x32x1, .f32⟩
  | 68 => ⟨S2x896x32x1, .f32⟩
  | 69 => ⟨S_, .f32⟩
  | 70 => ⟨S2x896x32x1, .f32⟩
  | 71 => ⟨S2x896x32x1, .f32⟩
  | 72 => ⟨S_, .f32⟩
  | 73 => ⟨S2x896x32x1, .f32⟩
  | 74 => ⟨S2x896x32x1, .i1⟩
  | 75 => ⟨S_, .f32⟩
  | 76 => ⟨S2x896x32x1, .f32⟩
  | 77 => ⟨S2x896x32x1, .i1⟩
  | 78 => ⟨S2x896x32x1, .i1⟩
  | 79 => ⟨S_, .f32⟩
  | 80 => ⟨S_, .f32⟩
  | 81 => ⟨S2x896x32x1, .f32⟩
  | 82 => ⟨S2x896x32x1, .f32⟩
  | 83 => ⟨S2x896x32x1, .f32⟩
  | 84 => ⟨S_, .f32⟩
  | 85 => ⟨S_, .f32⟩
  | 86 => ⟨S2x896x32x1, .f32⟩
  | 87 => ⟨S2x896x32x1, .f32⟩
  | 88 => ⟨S2x896x32x1, .f32⟩
  | 89 => ⟨S2x896x32x32, .f32⟩
  | 90 => ⟨S2x896x32x32, .f32⟩
  | 91 => ⟨S_, .f32⟩
  | 92 => ⟨S_, .f32⟩
  | 93 => ⟨S_, .f32⟩
  | 94 => ⟨S2x896x32x32, .f32⟩
  | 95 => ⟨S2x896x32x32, .f32⟩
  | 96 => ⟨S_, .f32⟩
  | 97 => ⟨S2x896x32x32, .f32⟩
  | 98 => ⟨S2x896x32x32, .f32⟩
  | 99 => ⟨S_, .f32⟩
  | 100 => ⟨S_, .f32⟩
  | 101 => ⟨S2x896x32x1, .f32⟩
  | 102 => ⟨S2x896x32x1, .f32⟩
  | 103 => ⟨S2x896x32x1, .f32⟩
  | 104 => ⟨S2x896x32, .f32⟩
  | 105 => ⟨S2x896x1024, .f32⟩
  | 106 => ⟨S2x896x8x128, .f32⟩
  | 107 => ⟨S2x896x8x128, .f32⟩
  | 108 => ⟨S_, .f32⟩
  | 109 => ⟨S2x896x8, .f32⟩
  | 110 => ⟨S2x896x8x1, .f32⟩
  | 111 => ⟨S_, .f32⟩
  | 112 => ⟨S2x896x8x1, .f32⟩
  | 113 => ⟨S2x896x8x1, .f32⟩
  | 114 => ⟨S2x896x8x1, .f32⟩
  | 115 => ⟨S_, .f32⟩
  | 116 => ⟨S_, .f32⟩
  | 117 => ⟨S2x896x8x1, .f32⟩
  | 118 => ⟨S2x896x8x1, .f32⟩
  | 119 => ⟨S2x896x8x1, .f32⟩
  | 120 => ⟨S_, .f32⟩
  | 121 => ⟨S2x896x8x1, .f32⟩
  | 122 => ⟨S2x896x8x1, .f32⟩
  | 123 => ⟨S_, .f32⟩
  | 124 => ⟨S2x896x8x1, .f32⟩
  | 125 => ⟨S2x896x8x1, .i1⟩
  | 126 => ⟨S_, .f32⟩
  | 127 => ⟨S2x896x8x1, .f32⟩
  | _ => ⟨S2x896x4096, .bf16⟩

abbrev hbmTy0_1 (i : Nat) : BufTy := match i % 128 with
  | 0 => ⟨S2x896x8x1, .i1⟩
  | 1 => ⟨S2x896x8x1, .i1⟩
  | 2 => ⟨S_, .f32⟩
  | 3 => ⟨S_, .f32⟩
  | 4 => ⟨S2x896x8x1, .f32⟩
  | 5 => ⟨S2x896x8x1, .f32⟩
  | 6 => ⟨S2x896x8x1, .f32⟩
  | 7 => ⟨S_, .f32⟩
  | 8 => ⟨S_, .f32⟩
  | 9 => ⟨S2x896x8x1, .f32⟩
  | 10 => ⟨S2x896x8x1, .f32⟩
  | 11 => ⟨S2x896x8x1, .f32⟩
  | 12 => ⟨S2x896x8x128, .f32⟩
  | 13 => ⟨S2x896x8x128, .f32⟩
  | 14 => ⟨S_, .f32⟩
  | 15 => ⟨S_, .f32⟩
  | 16 => ⟨S_, .f32⟩
  | 17 => ⟨S2x896x8x128, .f32⟩
  | 18 => ⟨S2x896x8x128, .f32⟩
  | 19 => ⟨S_, .f32⟩
  | 20 => ⟨S2x896x8x128, .f32⟩
  | 21 => ⟨S2x896x8x128, .f32⟩
  | 22 => ⟨S_, .f32⟩
  | 23 => ⟨S_, .f32⟩
  | 24 => ⟨S2x896x8x1, .f32⟩
  | 25 => ⟨S2x896x8x1, .f32⟩
  | 26 => ⟨S2x896x8x1, .f32⟩
  | 27 => ⟨S2x896x8, .f32⟩
  | 28 => ⟨S2x896x32x32, .bf16⟩
  | 29 => ⟨S2x896x32, .bf16⟩
  | 30 => ⟨S2x896x32x1, .bf16⟩
  | 31 => ⟨S2x896x32x32, .bf16⟩
  | 32 => ⟨S2x896x32x32, .bf16⟩
  | 33 => ⟨S2x896x8x128, .bf16⟩
  | 34 => ⟨S2x8x896x128, .bf16⟩
  | 35 => ⟨S2x896x128x32, .bf16⟩
  | 36 => ⟨S2x896x128, .bf16⟩
  | 37 => ⟨S2x896x128x1, .bf16⟩
  | 38 => ⟨S2x896x128x32, .bf16⟩
  | 39 => ⟨S2x896x128x32, .bf16⟩
  | 40 => ⟨S2x896x8x4x128, .bf16⟩
  | 41 => ⟨S2x8x4x896x128, .bf16⟩
  | 42 => ⟨S2x896x8x128, .bf16⟩
  | 43 => ⟨S2x8x896x128, .bf16⟩
  | 44 => ⟨S2x8x896, .f32⟩
  | 45 => ⟨S2x8x4x896x896, .f32⟩
  | 46 => ⟨S_, .f32⟩
  | 47 => ⟨S_, .f32⟩
  | 48 => ⟨S2x8x4x896x896, .f32⟩
  | 49 => ⟨S2x8x4x896x896, .f32⟩
  | 50 => ⟨S_, .f32⟩
  | 51 => ⟨S2x8x4x896x896, .f32⟩
  | 52 => ⟨S2x8x4x896x896, .f32⟩
  | 53 => ⟨S2x8x4x896x896, .f32⟩
  | 54 => ⟨S_, .f32⟩
  | 55 => ⟨S2x8x4x896x896, .f32⟩
  | 56 => ⟨S2x8x4x896x896, .f32⟩
  | 57 => ⟨S896, .i32⟩
  | 58 => ⟨S1x896, .i32⟩
  | 59 => ⟨S896, .i32⟩
  | 60 => ⟨S896x1, .i32⟩
  | 61 => ⟨S896x896, .i32⟩
  | 62 => ⟨S896x896, .i32⟩
  | 63 => ⟨S896x896, .i1⟩
  | 64 => ⟨S_, .f32⟩
  | 65 => ⟨S_, .f32⟩
  | 66 => ⟨S2x8x4x896x896, .i1⟩
  | 67 => ⟨S2x8x4x896x896, .f32⟩
  | 68 => ⟨S2x8x4x896x896, .f32⟩
  | 69 => ⟨S_, .f32⟩
  | 70 => ⟨S2x8x4x896, .f32⟩
  | 71 => ⟨S2x8x4x896x1, .f32⟩
  | 72 => ⟨S2x8x4x896x896, .f32⟩
  | 73 => ⟨S2x8x4x896x896, .f32⟩
  | 74 => ⟨S2x8x4x896x896, .f32⟩
  | 75 => ⟨S_, .f32⟩
  | 76 => ⟨S_, .f32⟩
  | 77 => ⟨S2x8x4x896x896, .i1⟩
  | 78 => ⟨S2x8x4x896x896, .f32⟩
  | 79 => ⟨S2x8x4x896x896, .f32⟩
  | 80 => ⟨S_, .f32⟩
  | 81 => ⟨S2x8x4x896, .f32⟩
  | 82 => ⟨S2x8x1x1x896, .f32⟩
  | 83 => ⟨S2x8x4x896x896, .f32⟩
  | 84 => ⟨S2x8x4x896x896, .f32⟩
  | 85 => ⟨S2x8x4x896x896, .f32⟩
  | 86 => ⟨S_, .f32⟩
  | 87 => ⟨S2x8x4x896, .f32⟩
  | 88 => ⟨S2x8x4x896x1, .f32⟩
  | 89 => ⟨S_, .f32⟩
  | 90 => ⟨S2x8x4x896x1, .f32⟩
  | 91 => ⟨S2x8x4x896x1, .f32⟩
  | 92 => ⟨S2x8x4x896x1, .f32⟩
  | 93 => ⟨S_, .f32⟩
  | 94 => ⟨S_, .f32⟩
  | 95 => ⟨S2x8x4x896x1, .f32⟩
  | 96 => ⟨S2x8x4x896x1, .f32⟩
  | 97 => ⟨S2x8x4x896x1, .f32⟩
  | 98 => ⟨S_, .f32⟩
  | 99 => ⟨S2x8x4x896x1, .f32⟩
  | 100 => ⟨S2x8x4x896x1, .f32⟩
  | 101 => ⟨S_, .f32⟩
  | 102 => ⟨S2x8x4x896x1, .f32⟩
  | 103 => ⟨S2x8x4x896x1, .i1⟩
  | 104 => ⟨S_, .f32⟩
  | 105 => ⟨S2x8x4x896x1, .f32⟩
  | 106 => ⟨S2x8x4x896x1, .i1⟩
  | 107 => ⟨S2x8x4x896x1, .i1⟩
  | 108 => ⟨S_, .f32⟩
  | 109 => ⟨S_, .f32⟩
  | 110 => ⟨S2x8x4x896x1, .f32⟩
  | 111 => ⟨S2x8x4x896x1, .f32⟩
  | 112 => ⟨S2x8x4x896x1, .f32⟩
  | 113 => ⟨S_, .f32⟩
  | 114 => ⟨S_, .f32⟩
  | 115 => ⟨S2x8x4x896x1, .f32⟩
  | 116 => ⟨S2x8x4x896x1, .f32⟩
  | 117 => ⟨S2x8x4x896x1, .f32⟩
  | 118 => ⟨S2x8x4x896x896, .f32⟩
  | 119 => ⟨S2x8x4x896x896, .f32⟩
  | 120 => ⟨S_, .f32⟩
  | 121 => ⟨S_, .f32⟩
  | 122 => ⟨S_, .f32⟩
  | 123 => ⟨S2x8x4x896x896, .f32⟩
  | 124 => ⟨S2x8x4x896x896, .f32⟩
  | 125 => ⟨S_, .f32⟩
  | 126 => ⟨S2x8x4x896x896, .f32⟩
  | 127 => ⟨S2x8x4x896x896, .f32⟩
  | _ => ⟨S2x896x4096, .bf16⟩

abbrev hbmTy0_2 (i : Nat) : BufTy := match i % 128 with
  | 0 => ⟨S_, .f32⟩
  | 1 => ⟨S_, .f32⟩
  | 2 => ⟨S2x8x4x896x1, .f32⟩
  | 3 => ⟨S2x8x4x896x1, .f32⟩
  | 4 => ⟨S2x8x4x896x1, .f32⟩
  | 5 => ⟨S2x8x4x896, .f32⟩
  | 6 => ⟨S2x8x4x896x896, .bf16⟩
  | 7 => ⟨S2x8x4x896x128, .f32⟩
  | 8 => ⟨S2x8x4x896x1, .f32⟩
  | 9 => ⟨S2x8x4x896x128, .f32⟩
  | 10 => ⟨S2x8x4x896x128, .f32⟩
  | 11 => ⟨S2x8x4x896x1, .f32⟩
  | 12 => ⟨S2x8x4x896x128, .f32⟩
  | 13 => ⟨S2x8x4x896x128, .f32⟩
  | 14 => ⟨S2x8x4x896x128, .bf16⟩
  | 15 => ⟨S2x896x8x4x128, .bf16⟩
  | 16 => ⟨S2x896x4096, .bf16⟩
  | 17 => ⟨S2x896x4096, .f32⟩
  | 18 => ⟨S2x896x1024, .f32⟩
  | 19 => ⟨S2x896x1024, .f32⟩
  | 20 => ⟨S2x896x4096, .fp8e4m3⟩
  | 21 => ⟨S2x896x1024, .fp8e4m3⟩
  | 22 => ⟨S2x896x1024, .fp8e4m3⟩
  | _ => ⟨S2x896x4096, .bf16⟩

abbrev hbmTy (i : Nat) : BufTy := match i / 128 with
  | 0 => hbmTy0_0 i
  | 1 => hbmTy0_1 i
  | 2 => hbmTy0_2 i
  | _ => ⟨S2x896x4096, .bf16⟩

abbrev bufTy : (tb : Table) → Fin (tcTables nBuf tb) → BufTy
  | .hbm, ⟨i, _⟩ => hbmTy i
  | .local _ .vmem, ⟨0, _⟩ => ⟨S2x896x4096, .f32⟩
  | .local _ .vmem, ⟨1, _⟩ => ⟨S2x896x1024, .f32⟩
  | .local _ .vmem, ⟨2, _⟩ => ⟨S2x896x1024, .f32⟩
  | .local _ .vmem, ⟨3, _⟩ => ⟨S2x896x4096, .fp8e4m3⟩
  | .local _ .vmem, ⟨4, _⟩ => ⟨S2x896x1024, .fp8e4m3⟩
  | .local _ .vmem, ⟨5, _⟩ => ⟨S2x896x1024, .fp8e4m3⟩
  | _, _ => ⟨S2x896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_call0_v0 : Ref sig .tc := ⟨.hbm, 29, rfl⟩
abbrev main_call0_v1 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_cst_8 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v27 : Ref sig .tc := ⟨.hbm, 47, rfl⟩
abbrev main_cst_9 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_10 : Ref sig .tc := ⟨.hbm, 57, rfl⟩
abbrev main_v36 : Ref sig .tc := ⟨.hbm, 58, rfl⟩
abbrev main_v37 : Ref sig .tc := ⟨.hbm, 59, rfl⟩
abbrev main_cst_11 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_12 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_13 : Ref sig .tc := ⟨.hbm, 69, rfl⟩
abbrev main_v45 : Ref sig .tc := ⟨.hbm, 70, rfl⟩
abbrev main_v46 : Ref sig .tc := ⟨.hbm, 71, rfl⟩
abbrev main_cst_14 : Ref sig .tc := ⟨.hbm, 72, rfl⟩
abbrev main_v47 : Ref sig .tc := ⟨.hbm, 73, rfl⟩
abbrev main_v48 : Ref sig .tc := ⟨.hbm, 74, rfl⟩
abbrev main_cst_15 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_16 : Ref sig .tc := ⟨.hbm, 79, rfl⟩
abbrev main_call2_v0 : Ref sig .tc := ⟨.hbm, 80, rfl⟩
abbrev main_call2_v1 : Ref sig .tc := ⟨.hbm, 81, rfl⟩
abbrev main_v52 : Ref sig .tc := ⟨.hbm, 82, rfl⟩
abbrev main_v53 : Ref sig .tc := ⟨.hbm, 83, rfl⟩
abbrev main_cst_17 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_18 : Ref sig .tc := ⟨.hbm, 91, rfl⟩
abbrev main_cst_19 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_v60 : Ref sig .tc := ⟨.hbm, 98, rfl⟩
abbrev main_cst_20 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_cst_21 : Ref sig .tc := ⟨.hbm, 108, rfl⟩
abbrev main_v69 : Ref sig .tc := ⟨.hbm, 109, rfl⟩
abbrev main_v70 : Ref sig .tc := ⟨.hbm, 110, rfl⟩
abbrev main_cst_22 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_cst_23 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_cst_24 : Ref sig .tc := ⟨.hbm, 120, rfl⟩
abbrev main_v78 : Ref sig .tc := ⟨.hbm, 121, rfl⟩
abbrev main_v79 : Ref sig .tc := ⟨.hbm, 122, rfl⟩
abbrev main_cst_25 : Ref sig .tc := ⟨.hbm, 123, rfl⟩
abbrev main_v80 : Ref sig .tc := ⟨.hbm, 124, rfl⟩
abbrev main_v81 : Ref sig .tc := ⟨.hbm, 125, rfl⟩
abbrev main_cst_26 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_cst_27 : Ref sig .tc := ⟨.hbm, 130, rfl⟩
abbrev main_call4_v0 : Ref sig .tc := ⟨.hbm, 131, rfl⟩
abbrev main_call4_v1 : Ref sig .tc := ⟨.hbm, 132, rfl⟩
abbrev main_v85 : Ref sig .tc := ⟨.hbm, 133, rfl⟩
abbrev main_v86 : Ref sig .tc := ⟨.hbm, 134, rfl⟩
abbrev main_cst_28 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_cst_29 : Ref sig .tc := ⟨.hbm, 142, rfl⟩
abbrev main_cst_30 : Ref sig .tc := ⟨.hbm, 143, rfl⟩
abbrev main_call5_v0 : Ref sig .tc := ⟨.hbm, 144, rfl⟩
abbrev main_call5_v1 : Ref sig .tc := ⟨.hbm, 145, rfl⟩
abbrev main_call5_v2 : Ref sig .tc := ⟨.hbm, 146, rfl⟩
abbrev main_call5_v3 : Ref sig .tc := ⟨.hbm, 147, rfl⟩
abbrev main_call5_v4 : Ref sig .tc := ⟨.hbm, 148, rfl⟩
abbrev main_v93 : Ref sig .tc := ⟨.hbm, 149, rfl⟩
abbrev main_cst_31 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_cst_32 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_cst_33 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_cst_34 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_cst_35 : Ref sig .tc := ⟨.hbm, 192, rfl⟩
abbrev main_call6_v0 : Ref sig .tc := ⟨.hbm, 193, rfl⟩
abbrev main_call6_v1 : Ref sig .tc := ⟨.hbm, 194, rfl⟩
abbrev main_call6_v2 : Ref sig .tc := ⟨.hbm, 195, rfl⟩
abbrev main_v132 : Ref sig .tc := ⟨.hbm, 196, rfl⟩
abbrev main_cst_36 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_cst_37 : Ref sig .tc := ⟨.hbm, 203, rfl⟩
abbrev main_call7_v0 : Ref sig .tc := ⟨.hbm, 204, rfl⟩
abbrev main_call7_v1 : Ref sig .tc := ⟨.hbm, 205, rfl⟩
abbrev main_call7_v2 : Ref sig .tc := ⟨.hbm, 206, rfl⟩
abbrev main_v138 : Ref sig .tc := ⟨.hbm, 207, rfl⟩
abbrev main_cst_38 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_cst_39 : Ref sig .tc := ⟨.hbm, 214, rfl⟩
abbrev main_v144 : Ref sig .tc := ⟨.hbm, 215, rfl⟩
abbrev main_v145 : Ref sig .tc := ⟨.hbm, 216, rfl⟩
abbrev main_cst_40 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_cst_41 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_cst_42 : Ref sig .tc := ⟨.hbm, 226, rfl⟩
abbrev main_v153 : Ref sig .tc := ⟨.hbm, 227, rfl⟩
abbrev main_v154 : Ref sig .tc := ⟨.hbm, 228, rfl⟩
abbrev main_cst_43 : Ref sig .tc := ⟨.hbm, 229, rfl⟩
abbrev main_v155 : Ref sig .tc := ⟨.hbm, 230, rfl⟩
abbrev main_v156 : Ref sig .tc := ⟨.hbm, 231, rfl⟩
abbrev main_cst_44 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_cst_45 : Ref sig .tc := ⟨.hbm, 236, rfl⟩
abbrev main_call8_v0 : Ref sig .tc := ⟨.hbm, 237, rfl⟩
abbrev main_call8_v1 : Ref sig .tc := ⟨.hbm, 238, rfl⟩
abbrev main_v160 : Ref sig .tc := ⟨.hbm, 239, rfl⟩
abbrev main_v161 : Ref sig .tc := ⟨.hbm, 240, rfl⟩
abbrev main_cst_46 : Ref sig .tc := ⟨.hbm, 241, rfl⟩
abbrev main_v162 : Ref sig .tc := ⟨.hbm, 242, rfl⟩
abbrev main_v163 : Ref sig .tc := ⟨.hbm, 243, rfl⟩
abbrev main_v164 : Ref sig .tc := ⟨.hbm, 244, rfl⟩
abbrev main_v165 : Ref sig .tc := ⟨.hbm, 245, rfl⟩
abbrev main_v166 : Ref sig .tc := ⟨.hbm, 246, rfl⟩
abbrev main_v167 : Ref sig .tc := ⟨.hbm, 247, rfl⟩
abbrev main_cst_47 : Ref sig .tc := ⟨.hbm, 248, rfl⟩
abbrev main_cst_48 : Ref sig .tc := ⟨.hbm, 249, rfl⟩
abbrev main_call9_v0 : Ref sig .tc := ⟨.hbm, 250, rfl⟩
abbrev main_call9_v1 : Ref sig .tc := ⟨.hbm, 251, rfl⟩
abbrev main_call9_v2 : Ref sig .tc := ⟨.hbm, 252, rfl⟩
abbrev main_call9_v3 : Ref sig .tc := ⟨.hbm, 253, rfl⟩
abbrev main_call9_v4 : Ref sig .tc := ⟨.hbm, 254, rfl⟩
abbrev main_v168 : Ref sig .tc := ⟨.hbm, 255, rfl⟩
abbrev main_cst_49 : Ref sig .tc := ⟨.hbm, 256, rfl⟩
abbrev main_v169 : Ref sig .tc := ⟨.hbm, 257, rfl⟩
abbrev main_v170 : Ref sig .tc := ⟨.hbm, 258, rfl⟩
abbrev main_v171 : Ref sig .tc := ⟨.hbm, 259, rfl⟩
abbrev main_v172 : Ref sig .tc := ⟨.hbm, 260, rfl⟩
abbrev main_v173 : Ref sig .tc := ⟨.hbm, 261, rfl⟩
abbrev main_v174 : Ref sig .tc := ⟨.hbm, 262, rfl⟩
abbrev main_v175 : Ref sig .tc := ⟨.hbm, 263, rfl⟩
abbrev main_v176 : Ref sig .tc := ⟨.hbm, 264, rfl⟩
abbrev main_v177 : Ref sig .tc := ⟨.hbm, 265, rfl⟩
abbrev main_v178 : Ref sig .tc := ⟨.hbm, 266, rfl⟩
abbrev main_v179 : Ref sig .tc := ⟨.hbm, 267, rfl⟩
abbrev main_v180 : Ref sig .tc := ⟨.hbm, 268, rfl⟩
abbrev main_v181 : Ref sig .tc := ⟨.hbm, 269, rfl⟩
abbrev main_v182 : Ref sig .tc := ⟨.hbm, 270, rfl⟩
abbrev main_v183 : Ref sig .tc := ⟨.hbm, 271, rfl⟩
abbrev main_v184 : Ref sig .tc := ⟨.hbm, 272, rfl⟩
abbrev main_v185 : Ref sig .tc := ⟨.hbm, 273, rfl⟩
abbrev main_v186 : Ref sig .tc := ⟨.hbm, 274, rfl⟩
abbrev main_v187 : Ref sig .tc := ⟨.hbm, 275, rfl⟩
abbrev main_v188_0 : Ref sig .tc := ⟨.hbm, 276, rfl⟩
abbrev main_v188_1 : Ref sig .tc := ⟨.hbm, 277, rfl⟩
abbrev main_v188_2 : Ref sig .tc := ⟨.hbm, 278, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x896x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x896x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x896x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x896x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x896x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x896x1024 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Run.lean ====
module

public import proofs.«01_k».proof.Proof.Gen.KernelIdeal.Frame
public import Idealize.ShloMosaic.Lib.MatmulPlain

/-! What one grid point stores, written once for every row block, key chunk and query tile: the
    lists of stores of the generated run are these lists, block by block. -/

@[expose] public section

noncomputable section

namespace Cert.KernelIdeal.Val

open Idealize.ShloMosaic Idealize.SL.Sem Cert.KernelIdeal.Gen

variable {F : FTy → Type} [FloatOps F] [Named F]

/-! ## One 128 × 128 block quantised -/

/-- The codes of a block of queries or keys. -/
def gCodes (B : Vec F S1x128x128 .bf16) : FVec F S128x128 .fp8e4m3 :=
  k0_pay14 k0_pay4 (k0_pay8 B) (k0_pay9 B) (k0_pay10 B) k0_pay11
/-- The scale of each group of 32 lanes, in the group's last lane. -/
def gScale (B : Vec F S1x128x128 .bf16) : FVec F S128x128 .bf16 :=
  k0_pay13 (k0_pay9 B) (k0_pay10 B) k0_pay11
/-- Codes times scales. -/
def gDeq (B : Vec F S1x128x128 .bf16) : FVec F S128x128 .bf16 :=
  mulf (extf .bf16 (gCodes B) bitsLt_fp8e4m3_bf16)
    (truncf .bf16 (matmul dot_S128x128_S128x128_S128x128_1_0_0_1_n_n none (gScale B) k0_pay4
      (constant S128x128 .f32 0x00000000#32)) bitsLt_bf16_f32)
/-- The inverse scales of a block of values, in every lane. -/
def vInv (B : Vec F S1x128x128 .bf16) : FVec F S128x128 .bf16 :=
  k0_pay83 (k0_pay80 B) (k0_pay81 B) (k0_pay82 B)
/-- The codes of a block of values, a scale for every row. -/
def vCodes (B : Vec F S1x128x128 .bf16) : FVec F S128x128 .fp8e4m3 :=
  k0_pay84 (k0_pay76 B) (vInv B)
/-- Each row's scale, in every lane. -/
def vScale (B : Vec F S1x128x128 .bf16) : FVec F S128x128 .f32 :=
  k0_pay86 (vInv B)

/-! ## The blocks that a point reads -/

/-- Row block `i` of head `h` lies inside a block of queries. -/
theorem inbX (i : Fin 7) (h : Fin 4) : ∀ a : Fin (Nat.succ 2), ![0, 128 * i.val, 128 * h.val] a + S1x128x128.size a ≤ S1x896x512.size a := by
  intro a; fin_cases a <;> simp [S1x128x128, S1x896x512] <;> omega
/-- Row block `i` lies inside a block of keys or values. -/
theorem inbK (i : Fin 7) : ∀ a : Fin (Nat.succ 2), ![0, 128 * i.val, 0] a + S1x128x128.size a ≤ S1x896x128.size a := by
  intro a; fin_cases a <;> simp [S1x128x128, S1x896x128] <;> omega

def xb (M : Memref sig .tc .vmem S1x896x512 .bf16) (h : M.IsWhole) (x : Vec F S1x896x512 .bf16) (i : Fin 7) (g : Fin 4) : Vec F S1x128x128 .bf16 :=
  View.readAt (Elt F) M.view (Rect.unit (s := S1x896x512) ![0, 128 * i.val, 128 * g.val] S1x128x128.size (inbX i g)).toLoadRect (h.unread x)
def kb (M : Memref sig .tc .vmem S1x896x128 .bf16) (h : M.IsWhole) (x : Vec F S1x896x128 .bf16) (i : Fin 7) : Vec F S1x128x128 .bf16 :=
  View.readAt (Elt F) M.view (Rect.unit (s := S1x896x128) ![0, 128 * i.val, 0] S1x128x128.size (inbK i)).toLoadRect (h.unread x)

/-! ## The stores of codes, and of the scratch buffers that the attention reads -/

variable (X : Fin 7 → Fin 4 → Vec F S1x128x128 .bf16) (K V : Fin 7 → Vec F S1x128x128 .bf16)

def qcP (i : Fin 7) (g : Fin 4) : View.Piece (Elt F) S1x896x512 .fp8e4m3 :=
  ⟨Rect.unit (s := S1x896x512) ![0, 128 * i.val, 128 * g.val] S1x128x128.size (inbX i g), shapeCast S1x128x128 (gCodes (X i g)) shapeCasts_S128x128_S1x128x128⟩
def qcL : List (View.Piece (Elt F) S1x896x512 .fp8e4m3) :=
  [6, 5, 4, 3, 2, 1, 0].flatMap fun i : Fin 7 => [3, 2, 1, 0].map (qcP X i)
def kcP (i : Fin 7) : View.Piece (Elt F) S1x896x128 .fp8e4m3 :=
  ⟨Rect.unit (s := S1x896x128) ![0, 128 * i.val, 0] S1x128x128.size (inbK i), shapeCast S1x128x128 (gCodes (K i)) shapeCasts_S128x128_S1x128x128⟩
def kcL : List (View.Piece (Elt F) S1x896x128 .fp8e4m3) := [6, 5, 4, 3, 2, 1, 0].map (kcP K)
def vcP (i : Fin 7) : View.Piece (Elt F) S1x896x128 .fp8e4m3 :=
  ⟨Rect.unit (s := S1x896x128) ![0, 128 * i.val, 0] S1x128x128.size (inbK i), shapeCast S1x128x128 (vCodes (V i)) shapeCasts_S128x128_S1x128x128⟩
def vcL : List (View.Piece (Elt F) S1x896x128 .fp8e4m3) := [6, 5, 4, 3, 2, 1, 0].map (vcP V)

/-- Row block `i` lies inside the scratch buffers of keys and of value scales. -/
theorem inbKS (i : Fin 7) : ∀ a : Fin (Nat.succ 1), ![128 * i.val, 0] a + S128x128.size a ≤ S896x128.size a := by
  intro a; fin_cases a <;> simp [S128x128, S896x128] <;> omega
/-- Column block `i` lies inside the scratch buffer of transposed value codes. -/
theorem inbVT (i : Fin 7) : ∀ a : Fin (Nat.succ 1), ![0, 128 * i.val] a + S128x128.size a ≤ S128x896.size a := by
  intro a; fin_cases a <;> simp [S128x128, S128x896] <;> omega
/-- The 32 rows of part `t` of row block `i`, head `g`, lie inside the scratch buffer of queries. -/
theorem inbQS (i : Fin 7) (g t : Fin 4) : ∀ a : Fin (Nat.succ 1), ![512 * i.val + 128 * t.val + 32 * g.val, 0] a + S32x128.size a ≤ S3584x128.size a := by
  intro a; fin_cases a <;> simp [S32x128, S3584x128] <;> omega
/-- Rows `32 t` to `32 t + 31` are a slice of a block of 128 rows. -/
theorem slQ (t : Fin 4) : S128x128.Slices ![32 * t.val, 0] S32x128 := by
  fin_cases t <;> decide

def ksP (i : Fin 7) : View.Piece (Elt F) S896x128 .bf16 :=
  ⟨Rect.unit (s := S896x128) ![128 * i.val, 0] S128x128.size (inbKS i), shapeCast S128x128 (gDeq (K i)) shapeCasts_S128x128_S128x128⟩
def ksL : List (View.Piece (Elt F) S896x128 .bf16) := [6, 5, 4, 3, 2, 1, 0].map (ksP K)
def vsP (i : Fin 7) : View.Piece (Elt F) S896x128 .f32 :=
  ⟨Rect.unit (s := S896x128) ![128 * i.val, 0] S128x128.size (inbKS i), shapeCast S128x128 (vScale (V i)) shapeCasts_S128x128_S128x128⟩
def vsL : List (View.Piece (Elt F) S896x128 .f32) := [6, 5, 4, 3, 2, 1, 0].map (vsP V)
/-- A block of codes transposed. -/
def vTr (y : FVec F S128x128 .fp8e4m3) : FVec F S128x128 .fp8e4m3 :=
  shapeCast S128x128 (truncf .fp8e4m3 (transpose S128x128 [1, 0] (extf .bf16 y bitsLt_fp8e4m3_bf16) transposes_S128x128_p1_0_S128x128)
    bitsLt_fp8e4m3_bf16) shapeCasts_S128x128_S128x128
def vtP (i : Fin 7) : View.Piece (Elt F) S128x896 .fp8e4m3 :=
  ⟨Rect.unit (s := S128x896) ![0, 128 * i.val] S128x128.size (inbVT i), vTr (vCodes (V i))⟩
def vtL : List (View.Piece (Elt F) S128x896 .fp8e4m3) := [6, 5, 4, 3, 2, 1, 0].map (vtP V)
def qP (i : Fin 7) (g t : Fin 4) : View.Piece (Elt F) S3584x128 .bf16 :=
  ⟨Rect.unit (s := S3584x128) ![512 * i.val + 128 * t.val + 32 * g.val, 0] S32x128.size (inbQS i g t),
    shapeCast S32x128 (extractStridedSlice S32x128 ![32 * t.val, 0] (gDeq (X i g)) (slQ t)) shapeCasts_S32x128_S32x128⟩
def qL : List (View.Piece (Elt F) S3584x128 .bf16) :=
  [6, 5, 4, 3, 2, 1, 0].flatMap fun i : Fin 7 => [3, 2, 1, 0].flatMap fun g : Fin 4 => [3, 2, 1, 0].map (qP X i g)

/-! ## Attention: a query tile of 64 rows and 4 heads against its key chunks -/

/-- The chunk of 64 keys numbered `n` lies inside the scratch buffer. -/
theorem inbKch (n : Fin 14) : ∀ a : Fin (Nat.succ 1), ![64 * n.val, 0] a + S64x128.size a ≤ S896x128.size a := by
  intro a; fin_cases a <;> simp [S64x128, S896x128] <;> omega
/-- The tile of 256 query rows numbered `n` lies inside the scratch buffer. -/
theorem inbQt (n : Fin 14) : ∀ a : Fin (Nat.succ 1), ![256 * n.val, 0] a + S256x128.size a ≤ S3584x128.size a := by
  intro a; fin_cases a <;> simp [S256x128, S3584x128] <;> omega
/-- The chunk of 64 rows numbered `n` lies inside the buffer of weights. -/
theorem inbW (n : Fin 14) : ∀ a : Fin (Nat.succ 1), ![64 * n.val, 0] a + S64x256.size a ≤ S896x256.size a := by
  intro a; fin_cases a <;> simp [S64x256, S896x256] <;> omega
/-- The first `n + 1` chunks lie inside the buffer of weights. -/
theorem inbWt (n : Fin 14) : ∀ a : Fin (Nat.succ 1), ![0, 0] a + (⟨2, ![64 * (n.val + 1), 256]⟩ : Shape).size a ≤ S896x256.size a := by
  intro a; fin_cases a <;> simp [S896x256] <;> omega
/-- The first `n + 1` chunks of columns lie inside the buffer of value codes. -/
theorem inbVt (n : Fin 14) : ∀ a : Fin (Nat.succ 1), ![0, 0] a + (⟨2, ![128, 64 * (n.val + 1)]⟩ : Shape).size a ≤ S128x896.size a := by
  intro a; fin_cases a <;> simp [S128x896] <;> omega
/-- The 32 rows of part `t` of tile `j`, head `g`, lie inside the result's block. -/
theorem inbO (j : Fin 14) (t : Fin 2) (g : Fin 4) : ∀ a : Fin (Nat.succ 2), ![0, 64 * j.val + 32 * t.val, 128 * g.val] a + S1x32x128.size a ≤ S1x896x512.size a := by
  intro a; fin_cases a <;> simp [S1x32x128, S1x896x512] <;> omega
/-- The 32 rows of part `t`, head `g`, are a slice of a tile's result. -/
theorem slO (t : Fin 2) (g : Fin 4) : S256x128.Slices ![128 * t.val + 32 * g.val, 0] S32x128 := by
  fin_cases t <;> fin_cases g <;> decide
/-- A row of 256 lanes broadcasts to `n` rows. -/
theorem bcRow (n : ℕ) : S1x256.Broadcasts ⟨2, ![n, 256]⟩ :=
  ⟨Nat.le_refl 2, fun x => by fin_cases x <;> first | exact .inl rfl | exact .inr fun _ => rfl⟩

/-- Key row at most query row, within the chunk on the diagonal. -/
def dmask : IVec S64x256 1 := k0_pay563 (iota .tc S64x256 32 [0] iota_S64x256_d0_w32) (iota .tc S64x256 32 [1] iota_S64x256_d1_w32) k0_pay561 k0_pay562
/-- The weights of a chunk below the diagonal. -/
def pLow (q : Vec F S256x128 .bf16) (k : Vec F S64x128 .bf16) : FVec F S64x256 .f32 := k0_pay580 q k
/-- The weights of the chunk on the diagonal. -/
def pDiag (q : Vec F S256x128 .bf16) (k : Vec F S64x128 .bf16) : FVec F S64x256 .f32 := select dmask (pLow q k) (broadcast S64x256 (Scalar.ofBits .f32 0x00000000#32))
/-- Weights times the values' scales. -/
def tW (p : FVec F S64x256 .f32) (s : Vec F S64x128 .f32) : FVec F S64x256 .f32 :=
  mulf p (concatenate S64x256 1 [⟨S64x128, s⟩, ⟨S64x128, s⟩] concatenates_S64x128_S64x128_S64x256_d1)
def addRow (a : FVec F S1x256 .f32) (p : FVec F S64x256 .f32) : FVec F S1x256 .f32 :=
  addf a (shapeCast S1x256 (multiReduction .add [0] S256 p 0x00000000#32 reduces_S64x256_S256 (.inl rfl) rfl) shapeCasts_S256_S1x256)
def maxRow (a : FVec F S1x256 .f32) (p : FVec F S64x256 .f32) : FVec F S1x256 .f32 :=
  maximumf a (shapeCast S1x256 (multiReduction .maximumf [0] S256 p 0xFF800000#32 reduces_S64x256_S256 (.inl rfl) rfl) shapeCasts_S256_S1x256)
def zRow : FVec F S1x256 .f32 := broadcast S1x256 (Scalar.ofBits .f32 0x00000000#32)

section
variable (q : Vec F S256x128 .bf16) (Kc : Fin 14 → Vec F S64x128 .bf16) (Sc : Fin 14 → Vec F S64x128 .f32)
/-- Sum of weights, their maximum, and the maximum of the scaled weights, over the first `n` chunks. -/
def lLow : (n : ℕ) → n ≤ 14 → FVec F S1x256 .f32
  | 0, _ => zRow
  | n + 1, h => addRow (lLow n (Nat.le_of_succ_le h)) (pLow q (Kc ⟨n, h⟩))
def mLow : (n : ℕ) → n ≤ 14 → FVec F S1x256 .f32
  | 0, _ => zRow
  | n + 1, h => maxRow (mLow n (Nat.le_of_succ_le h)) (pLow q (Kc ⟨n, h⟩))
def aLow : (n : ℕ) → n ≤ 14 → FVec F S1x256 .f32
  | 0, _ => zRow
  | n + 1, h => maxRow (aLow n (Nat.le_of_succ_le h)) (tW (pLow q (Kc ⟨n, h⟩)) (Sc ⟨n, h⟩))
def wPiece (n : Fin 14) (p : FVec F S64x256 .f32) (s : Vec F S64x128 .f32) : View.Piece (Elt F) S896x256 .f32 :=
  ⟨Rect.unit (s := S896x256) ![64 * n.val, 0] S64x256.size (inbW n), shapeCast S64x256 (tW p s) shapeCasts_S64x256_S64x256⟩
def wLow (rest : List (View.Piece (Elt F) S896x256 .f32)) : (n : ℕ) → n ≤ 14 → List (View.Piece (Elt F) S896x256 .f32)
  | 0, _ => rest
  | n + 1, h => wPiece ⟨n, h⟩ (pLow q (Kc ⟨n, h⟩)) (Sc ⟨n, h⟩) :: wLow rest n (Nat.le_of_succ_le h)
end

/-- The last step of a tile: the weights to codes, the product with the value codes, and its scale. -/
def tileFin (n : ℕ) (l m a : FVec F S1x256 .f32) (w : Vec F ⟨2, ![n, 256]⟩ .f32) (vt : Vec F ⟨2, ![128, n]⟩ .fp8e4m3) : FVec F S256x128 .bf16 :=
  have i : FVec F S1x256 .f32 := divf (broadcast S1x256 (Scalar.ofBits .f32 0x3F800000#32)) m
  have e : FVec F S1x256 .f32 := addf (floor (mulf (log (mulf (mulf a i) (broadcast S1x256 (Named.named κ "inv_fp8_max" 0x3B124925#32))))
    (broadcast S1x256 (Named.named κ "inv_ln2" 0x3FB8AA3B#32)))) (broadcast S1x256 (Scalar.ofBits .f32 0x3F800000#32))
  have u : FVec F S1x256 .f32 := mulf i (exp2 (subf (broadcast S1x256 (Scalar.ofBits .f32 0x00000000#32)) e))
  have y : FVec F ⟨2, ![n, 256]⟩ .f32 := mulf w (broadcastTo ⟨2, ![n, 256]⟩ u (bcRow n))
  have z : FVec F ⟨2, ![n, 256]⟩ .fp8e4m3 := truncf .fp8e4m3 (minimumf (broadcast ⟨2, ![n, 256]⟩ (Scalar.ofBits .f32 0x43E00000#32))
    (maximumf (broadcast ⟨2, ![n, 256]⟩ (Scalar.ofBits .f32 0xC3E00000#32)) y)) bitsLt_fp8e4m3_f32
  have o : FVec F S128x256 .f32 := matmul (DotDims.plain 128 n 256) none vt z (constant S128x256 .f32 0x00000000#32)
  transpose S256x128 [1, 0] (truncf .bf16 (mulf o (broadcastTo S128x256 (divf (exp2 e) (mulf l i)) broadcasts_S1x256_S128x256)) bitsLt_bf16_f32)
    transposes_S128x256_p1_0_S256x128

section
variable (Q : Fin 14 → Vec F S256x128 .bf16) (Kc : Fin 14 → Vec F S64x128 .bf16) (Sc : Fin 14 → Vec F S64x128 .f32)
  (Vt : (j : Fin 14) → Vec F ⟨2, ![128, 64 * (j.val + 1)]⟩ .fp8e4m3)
/-- The stores of scaled weights up to and with the first `j` tiles, the last first. -/
def wL : (j : ℕ) → j ≤ 14 → List (View.Piece (Elt F) S896x256 .f32)
  | 0, _ => []
  | j + 1, h => wPiece ⟨j, h⟩ (pDiag (Q ⟨j, h⟩) (Kc ⟨j, h⟩)) (Sc ⟨j, h⟩) ::
      wLow (Q ⟨j, h⟩) Kc Sc (wL j (Nat.le_of_succ_le h)) j (Nat.le_of_succ_le h)
def lT (j : Fin 14) : FVec F S1x256 .f32 := addRow (lLow (Q j) Kc j.val j.isLt.le) (pDiag (Q j) (Kc j))
def mT (j : Fin 14) : FVec F S1x256 .f32 := maxRow (mLow (Q j) Kc j.val j.isLt.le) (pDiag (Q j) (Kc j))
def aT (j : Fin 14) : FVec F S1x256 .f32 := maxRow (aLow (Q j) Kc Sc j.val j.isLt.le) (tW (pDiag (Q j) (Kc j)) (Sc j))
def wT (W : Memref sig .tc .vmem S896x256 .f32) (j : Fin 14) : Vec F ⟨2, ![64 * (j.val + 1), 256]⟩ .f32 :=
  W.view.readCov (wL Q Kc Sc (j.val + 1) j.isLt) (Rect.unit (s := S896x256) ![0, 0] (⟨2, ![64 * (j.val + 1), 256]⟩ : Shape).size (inbWt j)).toLoadRect
def tile (W : Memref sig .tc .vmem S896x256 .f32) (j : Fin 14) : FVec F S256x128 .bf16 :=
  tileFin (64 * (j.val + 1)) (lT Q Kc j) (mT Q Kc j) (aT Q Kc Sc j) (wT Q Kc Sc W j) (Vt j)
def oP (W : Memref sig .tc .vmem S896x256 .f32) (j : Fin 14) (t : Fin 2) (g : Fin 4) : View.Piece (Elt F) S1x896x512 .bf16 :=
  ⟨Rect.unit (s := S1x896x512) ![0, 64 * j.val + 32 * t.val, 128 * g.val] S1x32x128.size (inbO j t g),
    shapeCast S1x32x128 (extractStridedSlice S32x128 ![128 * t.val + 32 * g.val, 0] (tile Q Kc Sc Vt W j) (slO t g)) shapeCasts_S32x128_S1x32x128⟩
def oL (W : Memref sig .tc .vmem S896x256 .f32) : List (View.Piece (Elt F) S1x896x512 .bf16) :=
  [13, 12, 11, 10, 9, 8, 7, 6, 5, 4, 3, 2, 1, 0].flatMap fun j : Fin 14 => [1, 0].flatMap fun t : Fin 2 => [3, 2, 1, 0].map (oP Q Kc Sc Vt W j t)
end

variable (M12 : Memref sig .tc .vmem S3584x128 .bf16) (M13 : Memref sig .tc .vmem S896x128 .bf16) (M14 : Memref sig .tc .vmem S128x896 .fp8e4m3)
  (M15 : Memref sig .tc .vmem S896x128 .f32) (M16 : Memref sig .tc .vmem S896x256 .f32)
def rQ (j : Fin 14) : Vec F S256x128 .bf16 := M12.view.readCov (qL X) (Rect.unit (s := S3584x128) ![256 * j.val, 0] S256x128.size (inbQt j)).toLoadRect
def rK (n : Fin 14) : Vec F S64x128 .bf16 := M13.view.readCov (ksL K) (Rect.unit (s := S896x128) ![64 * n.val, 0] S64x128.size (inbKch n)).toLoadRect
def rS (n : Fin 14) : Vec F S64x128 .f32 := M15.view.readCov (vsL V) (Rect.unit (s := S896x128) ![64 * n.val, 0] S64x128.size (inbKch n)).toLoadRect
def rV (j : Fin 14) : Vec F ⟨2, ![128, 64 * (j.val + 1)]⟩ .fp8e4m3 :=
  M14.view.readCov (vtL V) (Rect.unit (s := S128x896) ![0, 0] (⟨2, ![128, 64 * (j.val + 1)]⟩ : Shape).size (inbVt j)).toLoadRect
/-- The stores of the attention's output. -/
def outL : List (View.Piece (Elt F) S1x896x512 .bf16) := oL (rQ X M12) (rK K M13) (rS V M15) (rV V M14) M16

/-! ## The scales, gathered into their lanes -/

/-- One where column `c` takes group `c - f` of four, that is row `32 (c - f) + 31`. -/
def gath (f : BitVec 32) : FVec F S128x128 .bf16 :=
  have v0 : IVec S128x128 32 := iota .tc S128x128 32 [0] iota_S128x128_d0_w32
  have v1 : IVec S128x128 32 := iota .tc S128x128 32 [1] iota_S128x128_d1_w32
  truncf .bf16 (select (andi (andi (cmpi .eq v0 (addi (muli (subi v1 (broadcast S128x128 f)) (broadcast S128x128 32#32)) (broadcast S128x128 31#32)))
      (cmpi .sge v1 (broadcast S128x128 f))) (cmpi .slt v1 (broadcast S128x128 (Scalar.addi f 4#32))))
    (broadcast S128x128 (Scalar.ofBits .f32 0x3F800000#32)) (broadcast S128x128 (Scalar.ofBits .f32 0x00000000#32))) bitsLt_bf16_f32
def gSc (B : Vec F S1x128x128 .bf16) (f : BitVec 32) : FVec F S128x128 .f32 :=
  matmul dot_S128x128_S128x128_S128x128_1_0_0_1_n_n none (gScale B) (gath f) (constant S128x128 .f32 0x00000000#32)
def firstK (kv : BitVec 32) : BitVec 32 := Scalar.muli kv 4#32
def firstQ (kv : BitVec 32) (g : BitVec 32) : BitVec 32 := Scalar.muli (Scalar.addi (Scalar.muli kv 4#32) g) 4#32
def qSum (kv : BitVec 32) (i : Fin 7) : FVec F S128x128 .f32 :=
  addf (addf (addf (addf (broadcast S128x128 (Scalar.ofBits .f32 0x00000000#32)) (gSc (X i 0) (firstQ kv 0#32))) (gSc (X i 1) (firstQ kv 1#32)))
    (gSc (X i 2) (firstQ kv 2#32))) (gSc (X i 3) (firstQ kv 3#32))

/-- Row block `i` lies inside the block of key scales. -/
theorem inbKS32 (i : Fin 7) : ∀ a : Fin (Nat.succ 2), ![0, 128 * i.val, 0] a + S1x128x32.size a ≤ S1x896x32.size a := by
  intro a; fin_cases a <;> simp [S1x128x32, S1x896x32] <;> omega
/-- Row block `i` lies inside the block of value scales. -/
theorem inbVS8 (i : Fin 7) : ∀ a : Fin (Nat.succ 2), ![0, 128 * i.val, 0] a + S1x128x8.size a ≤ S1x896x8.size a := by
  intro a; fin_cases a <;> simp [S1x128x8, S1x896x8] <;> omega
def rcQ (i : Fin 7) : Rect S1x896x128 := Rect.unit (s := S1x896x128) ![0, 128 * i.val, 0] S1x128x128.size (inbK i)
def rcK (i : Fin 7) : Rect S1x896x32 := Rect.unit (s := S1x896x32) ![0, 128 * i.val, 0] S1x128x32.size (inbKS32 i)
def rcV (i : Fin 7) : Rect S1x896x8 := Rect.unit (s := S1x896x8) ![0, 128 * i.val, 0] S1x128x8.size (inbVS8 i)

def qsP (kv : BitVec 32) (i : Fin 7) (prev : Vec F S1x128x128 .f32) : View.Piece (Elt F) S1x896x128 .f32 :=
  ⟨Rect.unit (s := S1x896x128) ![0, 128 * i.val, 0] S1x128x128.size (inbK i),
    shapeCast S1x128x128 (addf (shapeCast S128x128 prev shapeCasts_S1x128x128_S128x128) (qSum X kv i)) shapeCasts_S128x128_S1x128x128⟩
def kssP (kv : BitVec 32) (i : Fin 7) (prev : Vec F S1x128x32 .f32) : View.Piece (Elt F) S1x896x32 .f32 :=
  ⟨Rect.unit (s := S1x896x32) ![0, 128 * i.val, 0] S1x128x32.size (inbKS32 i),
    shapeCast S1x128x32 (addf (shapeCast S128x32 prev shapeCasts_S1x128x32_S128x32)
      (extractStridedSlice S128x32 ![0, 0] (gSc (K i) (firstK kv)) slices_S128x128_o0_0_S128x32)) shapeCasts_S128x32_S1x128x32⟩
def vssP (kv : BitVec 32) (i : Fin 7) (prev : Vec F S1x128x8 .f32) : View.Piece (Elt F) S1x896x8 .f32 :=
  ⟨Rect.unit (s := S1x896x8) ![0, 128 * i.val, 0] S1x128x8.size (inbVS8 i),
    shapeCast S1x128x8 (select (cmpi .eq (iota .tc S128x8 32 [1] iota_S128x8_d1_w32) (broadcast S128x8 kv))
      (extractStridedSlice S128x8 ![0, 0] (vScale (V i)) slices_S128x128_o0_0_S128x8) (shapeCast S128x8 prev shapeCasts_S1x128x8_S128x8)) shapeCasts_S128x8_S1x128x8⟩
/-- A later head of a batch adds to what the block holds. -/
def qsLB (kv : BitVec 32) (P : Fin 7 → Vec F S1x128x128 .f32) : List (View.Piece (Elt F) S1x896x128 .f32) :=
  [6, 5, 4, 3, 2, 1, 0].map fun i : Fin 7 => qsP X kv i (P i)
def kssLB (kv : BitVec 32) (P : Fin 7 → Vec F S1x128x32 .f32) : List (View.Piece (Elt F) S1x896x32 .f32) :=
  [6, 5, 4, 3, 2, 1, 0].map fun i : Fin 7 => kssP K kv i (P i)
def vssLB (kv : BitVec 32) (P : Fin 7 → Vec F S1x128x8 .f32) : List (View.Piece (Elt F) S1x896x8 .f32) :=
  [6, 5, 4, 3, 2, 1, 0].map fun i : Fin 7 => vssP V kv i (P i)
/-- The first head of a batch zeroes the block and then adds, row block by row block. -/
def qsLA (M7 : Memref sig .tc .vmem S1x896x128 .f32) (kv : BitVec 32) : (n : ℕ) → n ≤ 7 → List (View.Piece (Elt F) S1x896x128 .f32)
  | 0, _ => [⟨Rect.unit (s := S1x896x128) ![0, 0, 0] S1x896x128.size inb_S1x896x128_S1x896x128_0_0_0, k0_pay5⟩]
  | n + 1, h => qsP X kv ⟨n, h⟩ (M7.view.readCov (qsLA M7 kv n (Nat.le_of_succ_le h)) (Rect.unit (s := S1x896x128) ![0, 128 * n, 0] S1x128x128.size (inbK ⟨n, h⟩)).toLoadRect) ::
      qsLA M7 kv n (Nat.le_of_succ_le h)
def kssLA (M9 : Memref sig .tc .vmem S1x896x32 .f32) (kv : BitVec 32) : (n : ℕ) → n ≤ 7 → List (View.Piece (Elt F) S1x896x32 .f32)
  | 0, _ => [⟨Rect.unit (s := S1x896x32) ![0, 0, 0] S1x896x32.size inb_S1x896x32_S1x896x32_0_0_0, k0_pay6⟩]
  | n + 1, h => kssP K kv ⟨n, h⟩ (M9.view.readCov (kssLA M9 kv n (Nat.le_of_succ_le h)) (Rect.unit (s := S1x896x32) ![0, 128 * n, 0] S1x128x32.size (inbKS32 ⟨n, h⟩)).toLoadRect) ::
      kssLA M9 kv n (Nat.le_of_succ_le h)
def vssLA (M11 : Memref sig .tc .vmem S1x896x8 .f32) (kv : BitVec 32) : (n : ℕ) → n ≤ 7 → List (View.Piece (Elt F) S1x896x8 .f32)
  | 0, _ => [⟨Rect.unit (s := S1x896x8) ![0, 0, 0] S1x896x8.size inb_S1x896x8_S1x896x8_0_0_0, k0_pay7⟩]
  | n + 1, h => vssP V kv ⟨n, h⟩ (M11.view.readCov (vssLA M11 kv n (Nat.le_of_succ_le h)) (Rect.unit (s := S1x896x8) ![0, 128 * n, 0] S1x128x8.size (inbVS8 ⟨n, h⟩)).toLoadRect) ::
      vssLA M11 kv n (Nat.le_of_succ_le h)

/-! ## What a grid point leaves in each result's block -/

variable (m : (ℓ : Loc nD τ sig) → Buf (Elt F) ℓ) (c : Dev nD) (t : Fin grid0.N)

/-- The blocks of queries, keys and values that point `t` reads, and its head as a word. -/
def pX : Fin 7 → Fin 4 → Vec F S1x128x128 .bf16 := xb (ms0_0 t) (hs0_0 t) (iblk m c 0 t)
def pK : Fin 7 → Vec F S1x128x128 .bf16 := kb (ms0_1 t) (hs0_1 t) (iblk m c 1 t)
def pV : Fin 7 → Vec F S1x128x128 .bf16 := kb (ms0_2 t) (hs0_2 t) (iblk m c 2 t)
def pH : BitVec 32 := BitVec.ofNat 32 (grid0.coords t 1).val

set_option maxRecDepth 100000
set_option maxHeartbeats 4000000

/-- After a batch's first head the attention's block is what the stores of `outL` leave. -/
theorem atA3 (h0 : t.val % 8 = 0) : (outsAt0 m c t.val t.isLt).1 = View.canon (outL (pX m c t) (pK m c t) (pV m c t) scM0_0 scM0_1 scM0_2 scM0_3 scM0_4) := by
  rw [outsAt0_A m c t h0]; dsimp only
  unfold out0_A_3
  exact funext fun y => (View.read_writes_junk_apply_eq_canon (Val := Elt F) VO0_3 y _).trans (congrFun (congrArg View.canon (by sl_kernel_rfl)) y)
/-- After a batch's first head the block of query codes is what the stores of `qcL` leave. -/
theorem atA4 (h0 : t.val % 8 = 0) : (outsAt0 m c t.val t.isLt).2.1 = View.canon (qcL (pX m c t)) := by
  rw [outsAt0_A m c t h0]; dsimp only
  unfold out0_A_4
  exact funext fun y => (View.read_writes_junk_apply_eq_canon (Val := Elt F) VO0_4 y _).trans (congrFun (congrArg View.canon (by sl_kernel_rfl)) y)
/-- After a batch's first head the block of query scales is zeros with the head's scales added. -/
theorem atA5 (h0 : t.val % 8 = 0) : (outsAt0 m c t.val t.isLt).2.2.1 = View.canon (qsLA (pX m c t) (ms0_5 t) (pH t) 7 (by decide)) := by
  rw [outsAt0_A m c t h0]; dsimp only
  unfold out0_A_5
  exact funext fun y => (View.read_writes_junk_apply_eq_canon (Val := Elt F) VO0_5 y _).trans (congrFun (congrArg View.canon (by sl_kernel_rfl)) y)
/-- After a batch's first head the block of key codes is what the stores of `kcL` leave. -/
theorem atA6 (h0 : t.val % 8 = 0) : (outsAt0 m c t.val t.isLt).2.2.2.1 = View.canon (kcL (pK m c t)) := by
  rw [outsAt0_A m c t h0]; dsimp only
  unfold out0_A_6
  exact funext fun y => (View.read_writes_junk_apply_eq_canon (Val := Elt F) VO0_6 y _).trans (congrFun (congrArg View.canon (by sl_kernel_rfl)) y)
/-- After a batch's first head the block of key scales is zeros with the head's scales added. -/
theorem atA7 (h0 : t.val % 8 = 0) : (outsAt0 m c t.val t.isLt).2.2.2.2.1 = View.canon (kssLA (pK m c t) (ms0_7 t) (pH t) 7 (by decide)) := by
  rw [outsAt0_A m c t h0]; dsimp only
  unfold out0_A_7
  exact funext fun y => (View.read_writes_junk_apply_eq_canon (Val := Elt F) VO0_7 y _).trans (congrFun (congrArg View.canon (by sl_kernel_rfl)) y)
/-- After a batch's first head the block of value codes is what the stores of `vcL` leave. -/
theorem atA8 (h0 : t.val % 8 = 0) : (outsAt0 m c t.val t.isLt).2.2.2.2.2.1 = View.canon (vcL (pV m c t)) := by
  rw [outsAt0_A m c t h0]; dsimp only
  unfold out0_A_8
  exact funext fun y => (View.read_writes_junk_apply_eq_canon (Val := Elt F) VO0_8 y _).trans (congrFun (congrArg View.canon (by sl_kernel_rfl)) y)
/-- After a batch's first head the block of value scales is zeros with the head's column put in. -/
theorem atA9 (h0 : t.val % 8 = 0) : (outsAt0 m c t.val t.isLt).2.2.2.2.2.2 = View.canon (vssLA (pV m c t) (ms0_9 t) (pH t) 7 (by decide)) := by
  rw [outsAt0_A m c t h0]; dsimp only
  unfold out0_A_9
  exact funext fun y => (View.read_writes_junk_apply_eq_canon (Val := Elt F) VO0_9 y _).trans (congrFun (congrArg View.canon (by sl_kernel_rfl)) y)
/-- After a later head the attention's block is what the stores of `outL` leave. -/
theorem atB3 (h0 : ¬ t.val % 8 = 0) : (outsAt0 m c t.val t.isLt).1 = View.canon (outL (pX m c t) (pK m c t) (pV m c t) scM0_0 scM0_1 scM0_2 scM0_3 scM0_4) := by
  rw [outsAt0_B m c t h0]; dsimp only
  unfold out0_B_3
  exact funext fun y => (View.read_writes_junk_apply_eq_canon (Val := Elt F) VO0_3 y _).trans (congrFun (congrArg View.canon (by sl_kernel_rfl)) y)
/-- After a later head the block of query codes is what the stores of `qcL` leave. -/
theorem atB4 (h0 : ¬ t.val % 8 = 0) : (outsAt0 m c t.val t.isLt).2.1 = View.canon (qcL (pX m c t)) := by
  rw [outsAt0_B m c t h0]; dsimp only
  unfold out0_B_4
  exact funext fun y => (View.read_writes_junk_apply_eq_canon (Val := Elt F) VO0_4 y _).trans (congrFun (congrArg View.canon (by sl_kernel_rfl)) y)
/-- After a later head the block of query scales is the one before it with the head's scales added. -/
theorem atB5 (h0 : ¬ t.val % 8 = 0) : (outsAt0 m c t.val t.isLt).2.2.1 = View.canon (qsLB (pX m c t) (pH t) fun i => View.readAt (Elt F) (ms0_5 t).view (Rect.unit (s := S1x896x128) ![0, 128 * i.val, 0] S1x128x128.size (inbK i)).toLoadRect ((hs0_5 t).unread (outsAt0 m c (t.val - 1) (Nat.lt_of_le_of_lt (Nat.sub_le _ _) t.isLt)).2.2.1)) := by
  rw [outsAt0_B m c t h0]; dsimp only
  unfold out0_B_5
  exact funext fun y => (View.read_writes_junk_apply_eq_canon (Val := Elt F) VO0_5 y _).trans (congrFun (congrArg View.canon (by sl_kernel_rfl)) y)
/-- After a later head the block of key codes is what the stores of `kcL` leave. -/
theorem atB6 (h0 : ¬ t.val % 8 = 0) : (outsAt0 m c t.val t.isLt).2.2.2.1 = View.canon (kcL (pK m c t)) := by
  rw [outsAt0_B m c t h0]; dsimp only
  unfold out0_B_6
  exact funext fun y => (View.read_writes_junk_apply_eq_canon (Val := Elt F) VO0_6 y _).trans (congrFun (congrArg View.canon (by sl_kernel_rfl)) y)
/-- After a later head the block of key scales is the one before it with the head's scales added. -/
theorem atB7 (h0 : ¬ t.val % 8 = 0) : (outsAt0 m c t.val t.isLt).2.2.2.2.1 = View.canon (kssLB (pK m c t) (pH t) fun i => View.readAt (Elt F) (ms0_7 t).view (Rect.unit (s := S1x896x32) ![0, 128 * i.val, 0] S1x128x32.size (inbKS32 i)).toLoadRect ((hs0_7 t).unread (outsAt0 m c (t.val - 1) (Nat.lt_of_le_of_lt (Nat.sub_le _ _) t.isLt)).2.2.2.2.1)) := by
  rw [outsAt0_B m c t h0]; dsimp only
  unfold out0_B_7
  exact funext fun y => (View.read_writes_junk_apply_eq_canon (Val := Elt F) VO0_7 y _).trans (congrFun (congrArg View.canon (by sl_kernel_rfl)) y)
/-- After a later head the block of value codes is what the stores of `vcL` leave. -/
theorem atB8 (h0 : ¬ t.val % 8 = 0) : (outsAt0 m c t.val t.isLt).2.2.2.2.2.1 = View.canon (vcL (pV m c t)) := by
  rw [outsAt0_B m c t h0]; dsimp only
  unfold out0_B_8
  exact funext fun y => (View.read_writes_junk_apply_eq_canon (Val := Elt F) VO0_8 y _).trans (congrFun (congrArg View.canon (by sl_kernel_rfl)) y)
/-- After a later head the block of value scales is the one before it with the head's column put in. -/
theorem atB9 (h0 : ¬ t.val % 8 = 0) : (outsAt0 m c t.val t.isLt).2.2.2.2.2.2 = View.canon (vssLB (pV m c t) (pH t) fun i => View.readAt (Elt F) (ms0_9 t).view (Rect.unit (s := S1x896x8) ![0, 128 * i.val, 0] S1x128x8.size (inbVS8 i)).toLoadRect ((hs0_9 t).unread (outsAt0 m c (t.val - 1) (Nat.lt_of_le_of_lt (Nat.sub_le _ _) t.isLt)).2.2.2.2.2.2)) := by
  rw [outsAt0_B m c t h0]; dsimp only
  unfold out0_B_9
  exact funext fun y => (View.read_writes_junk_apply_eq_canon (Val := Elt F) VO0_9 y _).trans (congrFun (congrArg View.canon (by sl_kernel_rfl)) y)

end Cert.KernelIdeal.Val
end
-- ==== Proof.Quant.lean ====
module

public import proofs.«01_k».proof.Proof.Run
public import Idealize.ShloMosaic.Lib.Pointwise
public import Idealize.ShloMosaic.PureOps.IdealRules
public import Idealize.ShloMosaic.Lib.WordCmp
public import Idealize.ShloMosaic.Lib.Bf16Pair

/-! The blocks' codes, scales and products read at an index over the extended reals. -/

@[expose] public section

noncomputable section

namespace Cert.KernelIdeal.Val

open Idealize.ShloMosaic Idealize.SL.Sem Cert.KernelIdeal.Gen Idealize.ShloMosaic.Pointwise Idealize.ShloMosaic.WordCmp

/-! ## Scalars -/

/-- The named constant is 1/448. -/
theorem named_inv : (Named.named κ "inv_fp8_max" 0x3B124925#32 : Ideal .f32) = ((1 / 448 : ℝ) : EReal) :=
  IdealRules.named_const.ideal_named_scalar _ _ _ _ rfl
/-- The named constant is one over the logarithm of two. -/
theorem named_ln2 : (Named.named κ "inv_ln2" 0x3FB8AA3B#32 : Ideal .f32) = (((Real.log 2)⁻¹ : ℝ) : EReal) :=
  IdealRules.named_const.ideal_named_scalar _ _ _ _ rfl
/-- The named constant is (1/sqrt 128)/50. -/
theorem named_cap : (Named.named κ "to_cap" 0x3AE7B46A#32 : Ideal .f32) = (((Real.sqrt 128)⁻¹ * (1 / 50) : ℝ) : EReal) :=
  IdealRules.named_const.ideal_named_scalar _ _ _ _ rfl
/-- The named constant is fifty over the logarithm of two. -/
theorem named_exp2 : (Named.named κ "to_exp2" 0x429044FE#32 : Ideal .f32) = ((50 * (Real.log 2)⁻¹ : ℝ) : EReal) :=
  IdealRules.named_const.ideal_named_scalar _ _ _ _ rfl

/-- The exponent of the power of two for a block whose largest magnitude is `a`. -/
def kExp (a : EReal) : EReal :=
  Ideal.liftRound Int.floor (Ideal.log (a * ((1 / 448 : ℝ) : EReal)) * (((Real.log 2)⁻¹ : ℝ) : EReal)) + 1
/-- The power that the block is multiplied by; one for a block of tiny values. -/
def kInv (a : EReal) : EReal := if a < Ideal.ofBits .bf16 0x04E0#16 then 1 else Ideal.exp2 (0 - kExp a)
def kScale (a : EReal) : EReal := Ideal.div 1 (kInv a)
def clip (x : EReal) : EReal := min (Ideal.ofBits .f32 0x43E00000#32) (max (Ideal.ofBits .f32 0xC3E00000#32) x)

/-! ## The rolled maximum -/

def roll (n : BitVec 32) (y : FVec Ideal S128x128 .bf16) : FVec Ideal S128x128 .bf16 :=
  maximumf y (dynamicRotate 1 n none y rotates_S128x128_d1)

/-- `y` holds at each lane the largest of `g` over the `n` lanes that end there, cyclically. -/
def Rolled (g : Fin 128 → ℕ → EReal) (n : ℕ) (y : FVec Ideal S128x128 .bf16) : Prop :=
  ∀ (r c : Fin 128) (b : EReal), y (ix2 r c) ≤ b ↔ ∀ k < n, g r ((c.val + 128 - k) % 128) ≤ b

/-- The maximum with the rotation by `n` doubles the number of lanes taken in. -/
theorem Rolled.step {g : Fin 128 → ℕ → EReal} {n : ℕ} {y : FVec Ideal S128x128 .bf16} (h : Rolled g n y) (w : BitVec 32) (hw : w.toNat = n) (hn : n ≤ 64) :
    Rolled g (2 * n) (roll w y) := by
  intro r c b
  have e : roll w y (ix2 r c) = max (y (ix2 r c)) (y (ix2 r ⟨(c.val + 128 - n) % 128, Nat.mod_lt _ (by decide)⟩)) := by
    unfold roll
    pointwise
    have hn' : n % 128 = n := Nat.mod_eq_of_lt (by omega)
    simp [hw, hn']
  rw [e, max_le_iff, h r c b, h r _ b]
  constructor
  · rintro ⟨h1, h2⟩ k hk
    by_cases hkn : k < n
    · exact h1 k hkn
    · have := h2 (k - n) (by omega)
      have e2 : ((c.val + 128 - n) % 128 + 128 - (k - n)) % 128 = (c.val + 128 - k) % 128 := by omega
      simpa only [e2] using this
  · intro h1
    refine ⟨fun k hk => h1 k (by omega), fun k hk => ?_⟩
    have := h1 (n + k) (by omega)
    have e2 : ((c.val + 128 - n) % 128 + 128 - k) % 128 = (c.val + 128 - (n + k)) % 128 := by omega
    simpa only [e2] using this

/-- The magnitudes of row `r` of a block. -/
def mag (B : Vec Ideal S1x128x128 .bf16) (r : Fin 128) (k : ℕ) : EReal := FloatOps.absf (F := Ideal) (φ := .bf16) (B (ix3 0 r ⟨k % 128, Nat.mod_lt _ (by decide)⟩))

/-- The magnitudes themselves take in one lane. -/
theorem rolled_abs (B : Vec Ideal S1x128x128 .bf16) : Rolled (mag B) 1 (absf (shapeCast S128x128 B shapeCasts_S1x128x128_S128x128)) := by
  intro r c b
  have : (absf (shapeCast S128x128 B shapeCasts_S1x128x128_S128x128) : FVec Ideal S128x128 .bf16) (ix2 r c) = mag B r c.val := by
    unfold mag; pointwise; simp [Nat.mod_eq_of_lt c.isLt]
  rw [this]
  constructor
  · intro h k hk
    obtain rfl : k = 0 := by omega
    have e : (c.val + 128 - 0) % 128 = c.val := by omega
    rwa [e]
  · intro h
    have := h 0 (by decide)
    have e : (c.val + 128 - 0) % 128 = c.val := by omega
    rwa [e] at this

/-- Five rotations take in 32 lanes. -/
theorem rolled32 (B : Vec Ideal S1x128x128 .bf16) : Rolled (mag B) 32 (k0_pay9 B) :=
  (((((rolled_abs B).step 1#32 rfl (by decide)).step 2#32 rfl (by decide)).step 4#32 rfl (by decide)).step 8#32 rfl (by decide)).step 16#32 rfl (by decide)
/-- The magnitudes of a block of values after seven rotations. -/
def vRolled (B : Vec Ideal S1x128x128 .bf16) : FVec Ideal S128x128 .bf16 :=
  roll 64#32 (roll 32#32 (roll 16#32 (roll 8#32 (roll 4#32 (roll 2#32 (roll 1#32 (absf (shapeCast S128x128 B shapeCasts_S1x128x128_S128x128))))))))
/-- Seven rotations take in all 128 lanes. -/
theorem rolled128 (B : Vec Ideal S1x128x128 .bf16) : Rolled (mag B) 128 (vRolled B) :=
  (((((((rolled_abs B).step 1#32 rfl (by decide)).step 2#32 rfl (by decide)).step 4#32 rfl (by decide)).step 8#32 rfl (by decide)).step 16#32 rfl (by decide)).step 32#32 rfl (by decide)).step 64#32 rfl (by decide)

/-- The largest magnitude of a group of 32 lanes, and of a whole row. -/
def gMax (B : Vec Ideal S1x128x128 .bf16) (r : Fin 128) (g : ℕ) : EReal := Finset.univ.sup fun k : Fin 32 => mag B r (32 * g + k.val)
def vMax (B : Vec Ideal S1x128x128 .bf16) (r : Fin 128) : EReal := Finset.univ.sup fun k : Fin 128 => mag B r k.val

/-- The last lane of a group holds the group's largest magnitude. -/
theorem gRolled_apply (B : Vec Ideal S1x128x128 .bf16) (r : Fin 128) (g : ℕ) (c : Fin 128) (hc : c.val = 32 * g + 31) :
    k0_pay9 B (ix2 r c) = gMax B r g := by
  refine eq_of_forall_ge_iff fun b => (rolled32 B r c b).trans ?_
  unfold gMax
  rw [Finset.sup_le_iff]
  constructor
  · intro h k _
    have := h (31 - k.val) (by omega)
    have e : (c.val + 128 - (31 - k.val)) % 128 = 32 * g + k.val := by omega
    rwa [e] at this
  · intro h k hk
    have := h ⟨31 - k, by omega⟩ (Finset.mem_univ _)
    have e : (c.val + 128 - k) % 128 = 32 * g + (31 - k) := by omega
    rw [e]; exact this

/-- Every lane of a row of values holds the row's largest magnitude. -/
theorem vRolled_apply (B : Vec Ideal S1x128x128 .bf16) (r c : Fin 128) : vRolled B (ix2 r c) = vMax B r := by
  refine eq_of_forall_ge_iff fun b => (rolled128 B r c b).trans ?_
  unfold vMax
  rw [Finset.sup_le_iff]
  constructor
  · intro h k _
    have := h ((c.val + 128 - k.val) % 128) (by omega)
    have e : (c.val + 128 - (c.val + 128 - k.val) % 128) % 128 = k.val := by omega
    rwa [e] at this
  · intro h k hk
    exact h ⟨(c.val + 128 - k) % 128, by omega⟩ (Finset.mem_univ _)

/-! ## Scales and codes -/

/-- The inverse scale, lane by lane, from the largest magnitude there. -/
theorem gInv_apply (B : Vec Ideal S1x128x128 .bf16) (r c : Fin 128) :
    k0_pay12 (k0_pay9 B) (k0_pay10 B) k0_pay11 (ix2 r c) = kInv (k0_pay9 B (ix2 r c)) := by
  unfold k0_pay12 k0_pay10 k0_pay11 kInv kExp
  pointwise
  rw [named_inv, named_ln2]; rfl
/-- The scale, lane by lane, from the largest magnitude there. -/
theorem gScale_apply (B : Vec Ideal S1x128x128 .bf16) (r c : Fin 128) : gScale B (ix2 r c) = kScale (k0_pay9 B (ix2 r c)) := by
  unfold gScale k0_pay13 kScale
  rw [← gInv_apply]
  pointwise

/-- A selection by a word that says whether `P` holds. -/
theorem select_of {α : Type} (w : BitVec 1) (P : Prop) [Decidable P] (h : w = 1#1 ↔ P) (a b : α) : Scalar.select w a b = if P then a else b := by
  by_cases hp : P
  · exact (if_pos (h.mpr hp)).trans (if_pos hp).symm
  · exact (if_neg (fun e => hp (h.mp e))).trans (if_neg hp).symm

/-- The last lane of a lane's group of 32, as the kernel computes it. -/
theorem ori31 : ∀ c : Fin 128, IntOp.ori (BitVec.ofNat 32 c.val) 31#32 = BitVec.ofNat 32 (32 * (c.val / 32) + 31) := by decide

/-- The conjunction of two truth words. -/
theorem andi_one (a b : BitVec 1) : IntOp.andi a b = 1#1 ↔ a = 1#1 ∧ b = 1#1 := by
  revert a b; decide

/-- A row times the spreading matrix is the row's entry at the last lane of the column's group. -/
theorem spread_apply (y : FVec Ideal S128x128 .bf16) (r : Fin 128) (c e : Fin 128) (he : e.val = 32 * (c.val / 32) + 31) :
    matmul dot_S128x128_S128x128_S128x128_1_0_0_1_n_n none y k0_pay4 (constant S128x128 .f32 0x00000000#32) (ix2 r c) = y (ix2 r e) := by
  unfold k0_pay4
  pointwise
  rw [Finset.sum_eq_single e]
  · rw [select_of _ True (by rw [ori31, cmpi_eq_ofNat_eq_one_iff (by omega) (by omega)]; simp [he]), if_pos trivial]
  · intro x _ hx
    rw [select_of _ False (by rw [ori31, cmpi_eq_ofNat_eq_one_iff (by omega) (by omega)]; simp only [iff_false]; intro h; exact hx (Fin.ext (h.trans he.symm))), if_neg id]
  · intro h; exact absurd (Finset.mem_univ _) h

/-- The last lane of a group is a lane. -/
theorem lastLane (c : Fin 128) : 32 * (c.val / 32) + 31 < 128 := by omega

/-- The code of an element of a block of queries or keys. -/
theorem gCodes_apply (B : Vec Ideal S1x128x128 .bf16) (r c : Fin 128) :
    gCodes B (ix2 r c) = clip (B (ix3 0 r c) * kInv (gMax B r (c.val / 32))) := by
  have h := spread_apply (k0_pay12 (k0_pay9 B) (k0_pay10 B) k0_pay11) r c ⟨_, lastLane c⟩ rfl
  rw [gInv_apply, gRolled_apply B r (c.val / 32) _ rfl] at h
  unfold gCodes k0_pay14 k0_pay8 clip
  rw [← h]
  pointwise

/-- The scale in the last lane of group `g`. -/
theorem gScale_at (B : Vec Ideal S1x128x128 .bf16) (r : Fin 128) (g : ℕ) (c : Fin 128) (hc : c.val = 32 * g + 31) :
    gScale B (ix2 r c) = kScale (gMax B r g) := by
  rw [gScale_apply, gRolled_apply B r g c hc]

/-- The code of an element times its scale. -/
theorem gDeq_apply (B : Vec Ideal S1x128x128 .bf16) (r c : Fin 128) :
    gDeq B (ix2 r c) = clip (B (ix3 0 r c) * kInv (gMax B r (c.val / 32))) * kScale (gMax B r (c.val / 32)) := by
  have h := spread_apply (gScale B) r c ⟨_, lastLane c⟩ rfl
  rw [gScale_at B r (c.val / 32) _ rfl] at h
  rw [← gCodes_apply, ← h]
  unfold gDeq
  pointwise

/-- The even and the odd rows of a block, as the two halves of its words, woven together again. -/
def weave (y z : FVec Ideal S64x128 .bf16) : FVec Ideal S128x128 .bf16 := interleaveRows S128x128 y z bitcasts_S128x128_w16_S64x128_w32
/-- The rows of one parity. -/
def half (p : Fin 2) (y : FVec Ideal S128x128 .bf16) : FVec Ideal S64x128 .bf16 := rowsOfParity p S64x128 y bitcasts_S128x128_w16_S64x128_w32
/-- The maximum with the rotation by `n` of words that hold two rows each. -/
def rollW (n : BitVec 32) (y : FVec Ideal S128x128 .bf16) : FVec Ideal S128x128 .bf16 :=
  maximumf (weave (half 0 y) (half 1 y)) (weave (dynamicRotate 1 n none (half 0 y) rotates_S64x128_d1) (dynamicRotate 1 n none (half 1 y) rotates_S64x128_d1))
/-- The two halves of a block woven together are the block. -/
theorem weave_half (y : FVec Ideal S128x128 .bf16) : weave (half 0 y) (half 1 y) = y := interleaveRows_rowsOfParity _ y
/-- Rotating the lanes of words that hold two rows each rotates the lanes of both rows. -/
theorem weave_rotate (n : BitVec 32) (y : FVec Ideal S128x128 .bf16) :
    weave (dynamicRotate 1 n none (half 0 y) rotates_S64x128_d1) (dynamicRotate 1 n none (half 1 y) rotates_S64x128_d1) =
      dynamicRotate 1 n none y rotates_S128x128_d1 := by
  funext x
  obtain ⟨r, c, rfl⟩ : ∃ r c : Fin 128, x = ix2 r c := ⟨x 0, x 1, (ix2_eta x).symm⟩
  unfold weave half
  pointwise
  split <;> exact congrArg (fun i => y (ix2 i _)) (Fin.ext (by simp only; omega))
/-- The rotation of words gives the same maximum as the rotation of the block. -/
theorem rollW_eq (n : BitVec 32) (y : FVec Ideal S128x128 .bf16) : rollW n y = roll n y := by
  unfold rollW roll
  rw [weave_half, weave_rotate]

/-- The inverse scale, lane by lane, from the largest magnitude there, as the kernel computes it for the values. -/
def invOf (y : FVec Ideal S128x128 .bf16) : FVec Ideal S128x128 .bf16 :=
  select (cmpf .olt y (broadcast S128x128 (Scalar.ofBits .bf16 0x04E0#16))) (broadcast S128x128 (Scalar.ofBits .bf16 0x3F80#16))
    (truncf .bf16 (exp2 (subf (broadcast S128x128 (Scalar.ofBits .f32 0x00000000#32))
      (addf (floor (mulf (log (mulf (extf .f32 y bitsLt_bf16_f32) (broadcast S128x128 (Named.named κ "inv_fp8_max" 0x3B124925#32))))
        (broadcast S128x128 (Named.named κ "inv_ln2" 0x3FB8AA3B#32)))) (broadcast S128x128 (Scalar.ofBits .f32 0x3F800000#32))))) bitsLt_bf16_f32)
/-- It is `kInv` of the largest magnitude. -/
theorem invOf_apply (y : FVec Ideal S128x128 .bf16) (r c : Fin 128) : invOf y (ix2 r c) = kInv (y (ix2 r c)) := by
  unfold invOf kInv kExp
  pointwise
  rw [named_inv, named_ln2]; rfl
/-- The inverse scales of a block of values come from its rolled magnitudes. -/
theorem vInv_eq (B : Vec Ideal S1x128x128 .bf16) : vInv B = invOf (vRolled B) := by
  have h : ∀ z : FVec Ideal S128x128 .bf16,
      z = rollW 64#32 (rollW 32#32 (rollW 16#32 (rollW 8#32 (rollW 4#32 (rollW 2#32 (rollW 1#32 (absf (shapeCast S128x128 B shapeCasts_S1x128x128_S128x128)))))))) →
      vInv B = invOf (weave (half 0 z) (half 1 z)) := by
    rintro z rfl
    rfl
  rw [h _ rfl, weave_half]
  simp only [rollW_eq]
  rfl

/-- The inverse scale of a row of values, in every lane. -/
theorem vInv_apply (B : Vec Ideal S1x128x128 .bf16) (r c : Fin 128) : vInv B (ix2 r c) = kInv (vMax B r) := by
  rw [vInv_eq, invOf_apply, vRolled_apply]
/-- The scale of a row of values, in every lane. -/
theorem vScale_apply (B : Vec Ideal S1x128x128 .bf16) (r c : Fin 128) : vScale B (ix2 r c) = kScale (vMax B r) := by
  unfold vScale k0_pay86 kScale
  rw [← vInv_apply B r c]
  pointwise
/-- The code of an element of a block of values. -/
theorem vCodes_apply (B : Vec Ideal S1x128x128 .bf16) (r c : Fin 128) :
    vCodes B (ix2 r c) = clip (B (ix3 0 r c) * kInv (vMax B r)) := by
  rw [← vInv_apply B r c]
  unfold vCodes k0_pay84 k0_pay76 clip
  pointwise

/-! ## Scales gathered into their lanes -/

/-- When the gathering matrix holds a one: column `c` is one of four from `n`, and row `x` is the last lane of its group. -/
theorem gath_word (n : ℕ) (hn : n ≤ 124) (x c : Fin 128) :
    IntOp.andi (IntOp.andi (IntOp.cmpi .eq (BitVec.ofNat 32 x.val) (IntOp.addi (IntOp.muli (IntOp.subi (BitVec.ofNat 32 c.val) (BitVec.ofNat 32 n)) 32#32) 31#32))
      (IntOp.cmpi .sge (BitVec.ofNat 32 c.val) (BitVec.ofNat 32 n))) (IntOp.cmpi .slt (BitVec.ofNat 32 c.val) (Scalar.addi (BitVec.ofNat 32 n) 4#32)) = 1#1
      ↔ n ≤ c.val ∧ c.val < n + 4 ∧ x.val = 32 * (c.val - n) + 31 := by
  have e4 : Scalar.addi (BitVec.ofNat 32 n) 4#32 = BitVec.ofNat 32 (n + 4) := by
    show BitVec.ofNat 32 n + BitVec.ofNat 32 4 = _
    rw [BitVec.ofNat_add]
  rw [andi_one, andi_one, e4, cmpi_sge_ofNat_eq_one_iff (by omega) (by omega), cmpi_slt_ofNat_eq_one_iff (by omega) (by omega)]
  by_cases h : n ≤ c.val
  · have e : IntOp.addi (IntOp.muli (IntOp.subi (BitVec.ofNat 32 c.val) (BitVec.ofNat 32 n)) 32#32) 31#32 = BitVec.ofNat 32 (32 * (c.val - n) + 31) := by
      show (BitVec.ofNat 32 c.val - BitVec.ofNat 32 n) * BitVec.ofNat 32 32 + BitVec.ofNat 32 31 = _
      have hc : BitVec.ofNat 32 c.val = BitVec.ofNat 32 (c.val - n) + BitVec.ofNat 32 n := by
        rw [← BitVec.ofNat_add]; congr 1; omega
      rw [hc, BitVec.add_sub_cancel, ← BitVec.ofNat_mul, ← BitVec.ofNat_add, Nat.mul_comm]
    rw [e, cmpi_eq_ofNat_eq_one_iff (by omega) (by omega)]
    tauto
  · tauto

/-- A block's four scales, gathered into the four columns from `n`. -/
theorem gSc_apply (B : Vec Ideal S1x128x128 .bf16) (n : ℕ) (hn : n ≤ 124) (r c : Fin 128) :
    gSc B (BitVec.ofNat 32 n) (ix2 r c) = if n ≤ c.val ∧ c.val < n + 4 then kScale (gMax B r (c.val - n)) else 0 := by
  unfold gSc gath
  pointwise
  by_cases h : n ≤ c.val ∧ c.val < n + 4
  · have hl : 32 * (c.val - n) + 31 < 128 := by omega
    rw [if_pos h, Finset.sum_eq_single (⟨_, hl⟩ : Fin 128)]
    · rw [select_of _ True (by rw [gath_word n hn]; simp [h.1, h.2]), if_pos trivial, gScale_at B r (c.val - n) _ rfl]
    · intro x _ hx
      rw [select_of _ False (by rw [gath_word n hn]; simp only [iff_false]; rintro ⟨_, _, e⟩; exact hx (Fin.ext e)), if_neg id]
    · intro h; exact absurd (Finset.mem_univ _) h
  · rw [if_neg h]
    refine Finset.sum_eq_zero fun x _ => ?_
    rw [select_of _ False (by rw [gath_word n hn]; simp only [iff_false]; rintro ⟨a, b, _⟩; exact h ⟨a, b⟩), if_neg id]

/-- Four heads' scales side by side: sixteen lanes from lane `16 v`. -/
theorem qSum_apply (X : Fin 7 → Fin 4 → Vec Ideal S1x128x128 .bf16) (v : ℕ) (hv : v < 8) (i : Fin 7) (r c : Fin 128) :
    qSum X (BitVec.ofNat 32 v) i (ix2 r c) =
      if c.val / 16 = v then kScale (gMax (X i ⟨c.val % 16 / 4, by omega⟩) r (c.val % 4)) else 0 := by
  have hf : ∀ g < 4, firstQ (BitVec.ofNat 32 v) (BitVec.ofNat 32 g) = BitVec.ofNat 32 ((v * 4 + g) * 4) := fun g _ => by
    show (BitVec.ofNat 32 v * BitVec.ofNat 32 4 + BitVec.ofNat 32 g) * BitVec.ofNat 32 4 = _
    rw [← BitVec.ofNat_mul, ← BitVec.ofNat_add, ← BitVec.ofNat_mul]
  unfold qSum
  rw [hf 0 (by decide), hf 1 (by decide), hf 2 (by decide), hf 3 (by decide)]
  have e : ∀ a b d f : FVec Ideal S128x128 .f32, addf (addf (addf (addf (broadcast S128x128 (Scalar.ofBits .f32 0x00000000#32)) a) b) d) f (ix2 r c)
      = a (ix2 r c) + b (ix2 r c) + d (ix2 r c) + f (ix2 r c) := fun a b d f => by pointwise
  rw [e, gSc_apply _ _ (by omega), gSc_apply _ _ (by omega), gSc_apply _ _ (by omega), gSc_apply _ _ (by omega)]
  by_cases h : c.val / 16 = v
  · rw [if_pos h]
    have h4 : c.val % 16 / 4 = 0 ∨ c.val % 16 / 4 = 1 ∨ c.val % 16 / 4 = 2 ∨ c.val % 16 / 4 = 3 := by omega
    rcases h4 with h4 | h4 | h4 | h4
    · rw [if_pos (by omega), if_neg (by omega), if_neg (by omega), if_neg (by omega)]
      simp only [h4, add_zero, zero_add, show c.val - v * 4 * 4 = c.val % 4 by omega]; rfl
    · rw [if_neg (by omega), if_pos (by omega), if_neg (by omega), if_neg (by omega)]
      simp only [h4, add_zero, zero_add, show c.val - (v * 4 + 1) * 4 = c.val % 4 by omega]; rfl
    · rw [if_neg (by omega), if_neg (by omega), if_pos (by omega), if_neg (by omega)]
      simp only [h4, add_zero, zero_add, show c.val - (v * 4 + 2) * 4 = c.val % 4 by omega]; rfl
    · rw [if_neg (by omega), if_neg (by omega), if_neg (by omega), if_pos (by omega)]
      simp only [h4, add_zero, zero_add, show c.val - (v * 4 + 3) * 4 = c.val % 4 by omega]; rfl
  · rw [if_neg h, if_neg (by omega), if_neg (by omega), if_neg (by omega), if_neg (by omega)]
    simp

/-! ## The blocks read, in the arrays' coordinates -/

/-- An element of the block of queries read for row block `i` and head `g`. -/
theorem xb_apply (M : Memref sig .tc .vmem S1x896x512 .bf16) (h : M.IsWhole) (x : Vec Ideal S1x896x512 .bf16) (i : Fin 7) (g : Fin 4) (r c : Fin 128) :
    xb M h x i g (ix3 0 r c) = x (ix3 0 ⟨128 * i.val + r.val, by omega⟩ ⟨128 * g.val + c.val, by omega⟩) := by
  unfold xb
  rw [View.readAt_eq_ld, h.read_unread, View.ld_unit]
  refine congrArg x (funext fun a => Fin.ext ?_)
  fin_cases a <;> simp [ix3]
/-- An element of the block of keys or values read for row block `i`. -/
theorem kb_apply (M : Memref sig .tc .vmem S1x896x128 .bf16) (h : M.IsWhole) (x : Vec Ideal S1x896x128 .bf16) (i : Fin 7) (r c : Fin 128) :
    kb M h x i (ix3 0 r c) = x (ix3 0 ⟨128 * i.val + r.val, by omega⟩ c) := by
  unfold kb
  rw [View.readAt_eq_ld, h.read_unread, View.ld_unit]
  refine congrArg x (funext fun a => Fin.ext ?_)
  fin_cases a <;> simp [ix3]

end Cert.KernelIdeal.Val
end
-- ==== Proof.Scratch.lean ====
module

public import proofs.«01_k».proof.Proof.Quant

/-! What the scratch buffers hold when the attention reads them. -/

@[expose] public section

noncomputable section

namespace Cert.KernelIdeal.Val

open Idealize.ShloMosaic Idealize.SL.Sem Cert.KernelIdeal.Gen Idealize.ShloMosaic.Pointwise

/-- Pieces that agree with one function, read through a box. -/
theorem readCov_of {s : Shape} {e : EltTy} (v : View sig .tc .vmem s e) (L : List (View.Piece (Elt Ideal) s e)) (G : s.Idx → Elt Ideal e)
    (hG : ∀ p ∈ L, ∀ x : p.1.shape.Idx, p.2 x = G (p.1.emb x)) (B : LoadRect s) (j : B.shape.Idx) (hc : ∃ p ∈ L, B.idx j ∈ p.1.set) :
    v.readCov L B j = G (B.idx j) := by
  rw [View.readCov_eq_canon']
  exact View.canon_apply_of_pieces G L hG _ hc

/-- The index that a box of unit steps gives to its element. -/
theorem unit_emb {s : Shape} (off size : Fin s.rank → ℕ) (inb : ∀ a, off a + size a ≤ s.size a) (x : (Rect.unit (s := s) off size inb).shape.Idx) (a : Fin s.rank) :
    ((Rect.unit (s := s) off size inb).emb x a).val = off a + (x a).val := by
  show off a + 1 * (x a).val = _
  omega
/-- The index that a load through a box of unit steps reads. -/
theorem unit_idx {s : Shape} (off size : Fin s.rank → ℕ) (inb : ∀ a, off a + size a ≤ s.size a) (x : (Rect.unit (s := s) off size inb).toLoadRect.shape.Idx) (a : Fin s.rank) :
    ((Rect.unit (s := s) off size inb).toLoadRect.idx x a).val = off a + (x a).val := by
  show off a + 1 * (x a).val = _
  omega

/-- All seven row blocks are listed. -/
theorem mem7 (i : Fin 7) : i ∈ ([6, 5, 4, 3, 2, 1, 0] : List (Fin 7)) := by fin_cases i <;> simp
/-- All four heads are listed. -/
theorem mem4 (i : Fin 4) : i ∈ ([3, 2, 1, 0] : List (Fin 4)) := by fin_cases i <;> simp

/-- A number as an index, reduced into range. -/
def ix (n : ℕ) [NeZero n] (k : ℕ) : Fin n := ⟨k % n, Nat.mod_lt _ (Nat.pos_of_ne_zero (NeZero.ne n))⟩
/-- A number in range is its own index. -/
theorem ix_val {n : ℕ} [NeZero n] (k : Fin n) : ix n k.val = k := Fin.ext (Nat.mod_eq_of_lt k.isLt)
/-- The index of a number known to be in range. -/
theorem ix_of {n : ℕ} [NeZero n] (m : ℕ) (k : Fin n) (h : m = k.val) : ix n m = k := by rw [h, ix_val]

section
variable (X : Fin 7 → Fin 4 → Vec Ideal S1x128x128 .bf16) (K V : Fin 7 → Vec Ideal S1x128x128 .bf16)

/-- The dequantised keys, the values' scales, the values' codes and the dequantised queries, row by row. -/
def kRow (s : ℕ) (d : Fin 128) : EReal := gDeq (K (ix 7 (s / 128))) (ix2 (ix 128 s) d)
def sRow (s : ℕ) (d : Fin 128) : EReal := vScale (V (ix 7 (s / 128))) (ix2 (ix 128 s) d)
def vRow (s : ℕ) (d : Fin 128) : EReal := vCodes (V (ix 7 (s / 128))) (ix2 (ix 128 s) d)
def qRow (R : ℕ) (d : Fin 128) : EReal := gDeq (X (ix 7 (R / 512)) (ix 4 (R / 32))) (ix2 (ix 128 (32 * (R / 128 % 4) + R % 32)) d)

/-- A chunk of 64 keys, read from the scratch buffer. -/
theorem rK_apply (M : Memref sig .tc .vmem S896x128 .bf16) (n : Fin 14) (k : Fin 64) (d : Fin 128) :
    rK K M n (ix2 k d) = kRow K (64 * n.val + k.val) d := by
  unfold rK
  rw [readCov_of _ _ (fun y => kRow K (y 0).val (y 1))]
  · congr 1
    · exact unit_idx _ _ _ _ 0
    · exact Fin.ext ((unit_idx _ _ _ _ 1).trans (Nat.zero_add _))
  · intro p hp x
    obtain ⟨i, _, rfl⟩ := List.mem_map.mp hp
    obtain ⟨r, c, rfl⟩ : ∃ r c : Fin 128, x = ix2 r c := ⟨x 0, x 1, (ix2_eta x).symm⟩
    have h0 : ((ksP K i).1.emb (ix2 r c) 0).val = 128 * i.val + r.val := unit_emb _ _ (inbKS i) _ 0
    have h1 : (ksP K i).1.emb (ix2 r c) 1 = c := Fin.ext ((unit_emb _ _ (inbKS i) _ 1).trans (Nat.zero_add _))
    unfold kRow
    rw [h0, h1, ix_of _ i (by omega), show ix 128 (128 * i.val + r.val) = r from Fin.ext (by simp only [ix]; omega)]
    show shapeCast S128x128 (gDeq (K i)) _ (ix2 r c) = _
    pointwise
  · refine ⟨ksP K ⟨(64 * n.val + k.val) / 128, by omega⟩, List.mem_map.mpr ⟨_, mem7 _, rfl⟩, ?_⟩
    refine (Rect.mem_set_unit (inb := (inbKS _))).mpr fun a => ?_
    rw [unit_idx]
    fin_cases a
    · show 128 * ((64 * n.val + k.val) / 128) ≤ 64 * n.val + k.val ∧ 64 * n.val + k.val < 128 * ((64 * n.val + k.val) / 128) + 128
      omega
    · show 0 ≤ 0 + d.val ∧ 0 + d.val < 0 + 128
      omega

/-- A chunk of 64 value scales, read from the scratch buffer. -/
theorem rS_apply (M : Memref sig .tc .vmem S896x128 .f32) (n : Fin 14) (k : Fin 64) (d : Fin 128) :
    rS V M n (ix2 k d) = sRow V (64 * n.val + k.val) d := by
  unfold rS
  rw [readCov_of _ _ (fun y => sRow V (y 0).val (y 1))]
  · congr 1
    · exact unit_idx _ _ _ _ 0
    · exact Fin.ext ((unit_idx _ _ _ _ 1).trans (Nat.zero_add _))
  · intro p hp x
    obtain ⟨i, _, rfl⟩ := List.mem_map.mp hp
    obtain ⟨r, c, rfl⟩ : ∃ r c : Fin 128, x = ix2 r c := ⟨x 0, x 1, (ix2_eta x).symm⟩
    have h0 : ((vsP V i).1.emb (ix2 r c) 0).val = 128 * i.val + r.val := unit_emb _ _ (inbKS i) _ 0
    have h1 : (vsP V i).1.emb (ix2 r c) 1 = c := Fin.ext ((unit_emb _ _ (inbKS i) _ 1).trans (Nat.zero_add _))
    unfold sRow
    rw [h0, h1, ix_of _ i (by omega), show ix 128 (128 * i.val + r.val) = r from Fin.ext (by simp only [ix]; omega)]
    show shapeCast S128x128 (vScale (V i)) _ (ix2 r c) = _
    pointwise
  · refine ⟨vsP V ⟨(64 * n.val + k.val) / 128, by omega⟩, List.mem_map.mpr ⟨_, mem7 _, rfl⟩, ?_⟩
    refine (Rect.mem_set_unit (inb := (inbKS _))).mpr fun a => ?_
    rw [unit_idx]
    fin_cases a
    · show 128 * ((64 * n.val + k.val) / 128) ≤ 64 * n.val + k.val ∧ 64 * n.val + k.val < 128 * ((64 * n.val + k.val) / 128) + 128
      omega
    · show 0 ≤ 0 + d.val ∧ 0 + d.val < 0 + 128
      omega

/-- The value codes up to and with chunk `j`, read transposed from the scratch buffer. -/
theorem rV_apply (M : Memref sig .tc .vmem S128x896 .fp8e4m3) (j : Fin 14) (d : Fin 128) (k : Fin (64 * (j.val + 1))) :
    rV V M j (ix2 d k) = vRow V k.val d := by
  have hk := k.isLt
  unfold rV
  rw [readCov_of _ _ (fun y => vRow V (y 1).val (y 0))]
  · congr 1
    · exact (unit_idx _ _ _ _ 1).trans (Nat.zero_add _)
    · exact Fin.ext ((unit_idx _ _ _ _ 0).trans (Nat.zero_add _))
  · intro p hp x
    obtain ⟨i, _, rfl⟩ := List.mem_map.mp hp
    obtain ⟨c, r, rfl⟩ : ∃ r c : Fin 128, x = ix2 r c := ⟨x 0, x 1, (ix2_eta x).symm⟩
    have h0 : ((vtP V i).1.emb (ix2 c r) 1).val = 128 * i.val + r.val := unit_emb _ _ (inbVT i) _ 1
    have h1 : (vtP V i).1.emb (ix2 c r) 0 = c := Fin.ext ((unit_emb _ _ (inbVT i) _ 0).trans (Nat.zero_add _))
    unfold vRow
    rw [h0, h1, ix_of _ i (by omega), show ix 128 (128 * i.val + r.val) = r from Fin.ext (by simp only [ix]; omega)]
    show vTr (vCodes (V i)) (ix2 c r) = _
    unfold vTr
    pointwise
  · refine ⟨vtP V ⟨k.val / 128, by omega⟩, List.mem_map.mpr ⟨_, mem7 _, rfl⟩, ?_⟩
    refine (Rect.mem_set_unit (inb := (inbVT _))).mpr fun a => ?_
    rw [unit_idx]
    fin_cases a
    · show 0 ≤ 0 + d.val ∧ 0 + d.val < 0 + 128
      omega
    · show 128 * (k.val / 128) ≤ 0 + k.val ∧ 0 + k.val < 128 * (k.val / 128) + 128
      omega

/-- A tile of 256 query rows, read from the scratch buffer. -/
theorem rQ_apply (M : Memref sig .tc .vmem S3584x128 .bf16) (j : Fin 14) (l : Fin 256) (d : Fin 128) :
    rQ X M j (ix2 l d) = qRow X (256 * j.val + l.val) d := by
  unfold rQ
  rw [readCov_of _ _ (fun y => qRow X (y 0).val (y 1))]
  · congr 1
    · exact unit_idx _ _ _ _ 0
    · exact Fin.ext ((unit_idx _ _ _ _ 1).trans (Nat.zero_add _))
  · intro p hp x
    obtain ⟨i, _, hp⟩ := List.mem_flatMap.mp hp
    obtain ⟨g, _, hp⟩ := List.mem_flatMap.mp hp
    obtain ⟨t, _, rfl⟩ := List.mem_map.mp hp
    obtain ⟨r, c, rfl⟩ : ∃ (r : Fin 32) (c : Fin 128), x = ix2 r c := ⟨x 0, x 1, (ix2_eta x).symm⟩
    have h0 : ((qP X i g t).1.emb (ix2 r c) 0).val = 512 * i.val + 128 * t.val + 32 * g.val + r.val := unit_emb _ _ (inbQS i g t) _ 0
    have h1 : (qP X i g t).1.emb (ix2 r c) 1 = c := Fin.ext ((unit_emb _ _ (inbQS i g t) _ 1).trans (Nat.zero_add _))
    unfold qRow
    rw [h0, h1, ix_of _ i (by omega), show ix 4 ((512 * i.val + 128 * t.val + 32 * g.val + r.val) / 32) = g from Fin.ext (by simp only [ix]; omega),
      show ix 128 (32 * ((512 * i.val + 128 * t.val + 32 * g.val + r.val) / 128 % 4) + (512 * i.val + 128 * t.val + 32 * g.val + r.val) % 32)
        = ⟨32 * t.val + r.val, by omega⟩ from Fin.ext (by simp only [ix]; omega)]
    show shapeCast S32x128 (extractStridedSlice S32x128 ![32 * t.val, 0] (gDeq (X i g)) (slQ t)) _ (ix2 r c) = _
    pointwise
  · refine ⟨qP X ⟨(256 * j.val + l.val) / 512, by omega⟩ (ix 4 ((256 * j.val + l.val) / 32)) (ix 4 ((256 * j.val + l.val) / 128)),
      List.mem_flatMap.mpr ⟨_, mem7 _, List.mem_flatMap.mpr ⟨_, mem4 _, List.mem_map.mpr ⟨_, mem4 _, rfl⟩⟩⟩, ?_⟩
    refine (Rect.mem_set_unit (inb := (inbQS _ _ _))).mpr fun a => ?_
    rw [unit_idx]
    fin_cases a
    · show 512 * ((256 * j.val + l.val) / 512) + 128 * ((256 * j.val + l.val) / 128 % 4) + 32 * ((256 * j.val + l.val) / 32 % 4) ≤ 256 * j.val + l.val ∧
        256 * j.val + l.val < 512 * ((256 * j.val + l.val) / 512) + 128 * ((256 * j.val + l.val) / 128 % 4) + 32 * ((256 * j.val + l.val) / 32 % 4) + 32
      omega
    · show 0 ≤ 0 + d.val ∧ 0 + d.val < 0 + 128
      omega
end

end Cert.KernelIdeal.Val
end
-- ==== Proof.Attn.lean ====
module

public import proofs.«01_k».proof.Proof.Scratch

/-! What a query tile's attention gives, lane by lane. -/

@[expose] public section

noncomputable section

namespace Cert.KernelIdeal.Val

open Idealize.ShloMosaic Idealize.SL.Sem Cert.KernelIdeal.Gen Idealize.ShloMosaic.Pointwise Idealize.ShloMosaic.WordCmp

/-- The weight of a score: the exponential of fifty times the hyperbolic tangent of the scaled score. -/
def soft (x : EReal) : EReal :=
  Ideal.exp2 (Ideal.tanh (x * (((Real.sqrt 128)⁻¹ * (1 / 50) : ℝ) : EReal)) * ((50 * (Real.log 2)⁻¹ : ℝ) : EReal))

/-- The row of a lane within its tile of 64. -/
def lrow (l : ℕ) : ℕ := 32 * (l / 128) + l % 32

/-- A weight below the diagonal. -/
theorem pLow_apply (q : Vec Ideal S256x128 .bf16) (k : Vec Ideal S64x128 .bf16) (s : Fin 64) (l : Fin 256) :
    pLow q k (ix2 s l) = soft (∑ d : Fin 128, k (ix2 s d) * q (ix2 l d)) := by
  unfold pLow k0_pay580 soft
  pointwise
  rw [named_cap, named_exp2]; rfl

/-- The mask of the diagonal chunk: the key's row is at most the lane's. -/
theorem dmask_apply (s : Fin 64) (l : Fin 256) : dmask (ix2 s l) = 1#1 ↔ s.val ≤ lrow l.val := by
  unfold dmask k0_pay563 k0_pay561 k0_pay562
  pointwise
  refine (Eq.congr_left (congrArg (IntOp.cmpi .sle _) (?_ : _ = BitVec.ofNat 32 (lrow l.val)))).trans
    (cmpi_sle_ofNat_eq_one_iff (by omega) (by unfold lrow; omega))
  clear s
  revert l
  decide +kernel

/-- A weight of the diagonal chunk: zero for a key after the lane's row. -/
theorem pDiag_apply (q : Vec Ideal S256x128 .bf16) (k : Vec Ideal S64x128 .bf16) (s : Fin 64) (l : Fin 256) :
    pDiag q k (ix2 s l) = if s.val ≤ lrow l.val then soft (∑ d : Fin 128, k (ix2 s d) * q (ix2 l d)) else 0 := by
  rw [← select_of _ _ (dmask_apply s l), ← pLow_apply]
  unfold pDiag
  pointwise

/-- A weight times the scale of its key's value. -/
theorem tW_apply (p : FVec Ideal S64x256 .f32) (v : Vec Ideal S64x128 .f32) (s : Fin 64) (l : Fin 256) :
    tW p v (ix2 s l) = p (ix2 s l) * v (ix2 s (ix 128 l.val)) := by
  unfold tW
  pointwise
  congr 1
  split <;> refine congrArg (fun x => v (ix2 s x)) (Fin.ext ?_) <;> show _ = l.val % 128 <;> simp only <;> omega

/-- A lane's sum with a chunk's weights added. -/
theorem addRow_apply (a : FVec Ideal S1x256 .f32) (p : FVec Ideal S64x256 .f32) (l : Fin 256) :
    addRow a p (ix2 0 l) = a (ix2 0 l) + ∑ s : Fin 64, p (ix2 s l) := by
  unfold addRow
  pointwise
/-- A bound on a lane's maximum with a chunk's weights taken in. -/
theorem maxRow_le (a : FVec Ideal S1x256 .f32) (p : FVec Ideal S64x256 .f32) (l : Fin 256) (b : EReal) :
    maxRow a p (ix2 0 l) ≤ b ↔ a (ix2 0 l) ≤ b ∧ ∀ s : Fin 64, p (ix2 s l) ≤ b := by
  unfold maxRow
  pointwise
  rw [max_le_iff, Finset.fold_max_le]
  have hb : Ideal.ofBits .f32 0xFF800000#32 = (⊥ : EReal) := by simp [Ideal.ofBits, Ideal.ieee]
  rw [hb]
  simp
/-- The starting row is zero. -/
theorem zRow_apply (l : Fin 256) : (zRow : FVec Ideal S1x256 .f32) (ix2 0 l) = 0 := by
  unfold zRow
  pointwise

/-- A lane's result from the sums, the maxima and the stored weights. -/
theorem tileFin_apply (n : ℕ) (l m a : FVec Ideal S1x256 .f32) (w : Vec Ideal ⟨2, ![n, 256]⟩ .f32) (vt : Vec Ideal ⟨2, ![128, n]⟩ .fp8e4m3) (y : Fin 256) (d : Fin 128) :
    tileFin n l m a w vt (ix2 y d) =
      (∑ k : Fin n, vt (ix2 d k) * clip (w (ix2 k y) * (Ideal.div 1 (m (ix2 0 y)) * Ideal.exp2 (0 - kExp (a (ix2 0 y) * Ideal.div 1 (m (ix2 0 y)))))))
        * Ideal.div (Ideal.exp2 (kExp (a (ix2 0 y) * Ideal.div 1 (m (ix2 0 y))))) (l (ix2 0 y) * Ideal.div 1 (m (ix2 0 y))) := by
  unfold tileFin
  unfold kExp clip
  pointwise
  rw [named_inv, named_ln2]
  refine congrArg₂ (· * ·) ((Ideal.matmul_plain_apply (φ₁ := .fp8e4m3) (φ₂ := .fp8e4m3) none _ _ _ d y).trans ?_) rfl
  refine (congrArg₂ (· + ·) (by pointwise) (Finset.sum_congr rfl fun k _ => ?_)).trans (zero_add _)
  refine congrArg (vt (ix2 d k) * ·) ?_
  pointwise
  rfl

section
variable (qr kr sr vr : ℕ → Fin 128 → EReal)
/-- The scalar product of a query row and a key row. -/
def dt (R k : ℕ) : EReal := ∑ d : Fin 128, kr k d * qr R d
/-- The weight of a key for a lane of a tile: nothing for a key after the lane's row. -/
def pw (j l k : ℕ) : EReal := if k ≤ 64 * j + lrow l then soft (dt qr kr (256 * j + l) k) else 0
/-- The weight times the scale of the key's value. -/
def ww (j l k : ℕ) : EReal := pw qr kr j l k * sr k (ix 128 l)
/-- The greatest of the first `n` values, and zero. -/
def mx (n : ℕ) (f : ℕ → EReal) : EReal := max 0 ((Finset.range n).sup f)
/-- A bound on the greatest of the first `n` values. -/
theorem mx_le (n : ℕ) (f : ℕ → EReal) (b : EReal) : mx n f ≤ b ↔ 0 ≤ b ∧ ∀ k < n, f k ≤ b := by
  unfold mx; rw [max_le_iff, Finset.sup_le_iff]; simp

variable (Q : Fin 14 → Vec Ideal S256x128 .bf16) (Kc : Fin 14 → Vec Ideal S64x128 .bf16) (Sc : Fin 14 → Vec Ideal S64x128 .f32)
  (Vt : (j : Fin 14) → Vec Ideal ⟨2, ![128, 64 * (j.val + 1)]⟩ .fp8e4m3)
  (hQ : ∀ j l d, Q j (ix2 l d) = qr (256 * j.val + l.val) d) (hK : ∀ n k d, Kc n (ix2 k d) = kr (64 * n.val + k.val) d)
  (hS : ∀ n k d, Sc n (ix2 k d) = sr (64 * n.val + k.val) d) (hV : ∀ j d k, Vt j (ix2 d k) = vr k.val d)

include hQ hK in
/-- The weights of a chunk below the diagonal, by the key's number. -/
theorem low_pw (j n : Fin 14) (h : n < j) (s : Fin 64) (l : Fin 256) :
    pLow (Q j) (Kc n) (ix2 s l) = pw qr kr j.val l.val (64 * n.val + s.val) := by
  have h' : n.val < j.val := h
  have hs := s.isLt
  rw [pLow_apply]; unfold pw dt
  rw [if_pos (by omega)]
  simp only [hQ, hK]
include hQ hK in
/-- The weights of the diagonal chunk, by the key's number. -/
theorem diag_pw (j : Fin 14) (s : Fin 64) (l : Fin 256) :
    pDiag (Q j) (Kc j) (ix2 s l) = pw qr kr j.val l.val (64 * j.val + s.val) := by
  rw [pDiag_apply]; unfold pw dt
  simp only [hQ, hK, Nat.add_le_add_iff_left]
include hQ hK hS in
/-- The scaled weights of a chunk below the diagonal, by the key's number. -/
theorem low_ww (j n : Fin 14) (h : n < j) (s : Fin 64) (l : Fin 256) :
    tW (pLow (Q j) (Kc n)) (Sc n) (ix2 s l) = ww qr kr sr j.val l.val (64 * n.val + s.val) := by
  rw [tW_apply, low_pw qr kr Q Kc hQ hK j n h, hS]; rfl
include hQ hK hS in
/-- The scaled weights of the diagonal chunk, by the key's number. -/
theorem diag_ww (j : Fin 14) (s : Fin 64) (l : Fin 256) :
    tW (pDiag (Q j) (Kc j)) (Sc j) (ix2 s l) = ww qr kr sr j.val l.val (64 * j.val + s.val) := by
  rw [tW_apply, diag_pw qr kr Q Kc hQ hK, hS]; rfl

/-- A sum over the first chunks and one more. -/
theorem sum_chunk (f : ℕ → EReal) (n : ℕ) :
    ∑ k ∈ Finset.range (64 * (n + 1)), f k = ∑ k ∈ Finset.range (64 * n), f k + ∑ s : Fin 64, f (64 * n + s.val) := by
  rw [Nat.mul_succ, Finset.sum_range_add, ← Fin.sum_univ_eq_sum_range (fun x => f (64 * n + x))]
/-- A property of all keys of the first chunks and one more. -/
theorem all_chunk (P : ℕ → Prop) (n : ℕ) : (∀ k < 64 * (n + 1), P k) ↔ (∀ k < 64 * n, P k) ∧ ∀ s : Fin 64, P (64 * n + s.val) := by
  constructor
  · intro h
    exact ⟨fun k hk => h k (by omega), fun s => h _ (by have := s.isLt; omega)⟩
  · rintro ⟨h₁, h₂⟩ k hk
    by_cases hlt : k < 64 * n
    · exact h₁ k hlt
    · have := h₂ ⟨k - 64 * n, by omega⟩
      rwa [show 64 * n + (k - 64 * n) = k by omega] at this

include hQ hK in
/-- A lane's sum of weights over the first `n` chunks. -/
theorem lLow_apply (j : Fin 14) (l : Fin 256) : ∀ (n : ℕ) (h : n ≤ 14), n ≤ j.val →
    lLow (Q j) Kc n h (ix2 0 l) = ∑ k ∈ Finset.range (64 * n), pw qr kr j.val l.val k
  | 0, _, _ => (zRow_apply l).trans (by simp)
  | n + 1, h, hj => by
    rw [sum_chunk, ← lLow_apply j l n (Nat.le_of_succ_le h) (by omega)]
    refine (addRow_apply _ _ l).trans ?_
    congr 1
    exact Finset.sum_congr rfl fun s _ => low_pw qr kr Q Kc hQ hK j ⟨n, h⟩ (by show n < j.val; omega) s l
include hQ hK in
/-- A bound on a lane's greatest weight over the first `n` chunks. -/
theorem mLow_le (j : Fin 14) (l : Fin 256) (b : EReal) : ∀ (n : ℕ) (h : n ≤ 14), n ≤ j.val →
    (mLow (Q j) Kc n h (ix2 0 l) ≤ b ↔ 0 ≤ b ∧ ∀ k < 64 * n, pw qr kr j.val l.val k ≤ b)
  | 0, _, _ => by
    rw [show mLow (Q j) Kc 0 _ (ix2 0 l) = 0 from zRow_apply l]; simp
  | n + 1, h, hj => by
    rw [all_chunk, ← and_assoc, ← mLow_le j l b n (Nat.le_of_succ_le h) (by omega)]
    refine (maxRow_le _ _ l b).trans ?_
    exact and_congr Iff.rfl (forall_congr' fun s => by rw [low_pw qr kr Q Kc hQ hK j ⟨n, h⟩ (by show n < j.val; omega) s l])
include hQ hK hS in
/-- A bound on a lane's greatest scaled weight over the first `n` chunks. -/
theorem aLow_le (j : Fin 14) (l : Fin 256) (b : EReal) : ∀ (n : ℕ) (h : n ≤ 14), n ≤ j.val →
    (aLow (Q j) Kc Sc n h (ix2 0 l) ≤ b ↔ 0 ≤ b ∧ ∀ k < 64 * n, ww qr kr sr j.val l.val k ≤ b)
  | 0, _, _ => by
    rw [show aLow (Q j) Kc Sc 0 _ (ix2 0 l) = 0 from zRow_apply l]; simp
  | n + 1, h, hj => by
    rw [all_chunk, ← and_assoc, ← aLow_le j l b n (Nat.le_of_succ_le h) (by omega)]
    refine (maxRow_le _ _ l b).trans ?_
    exact and_congr Iff.rfl (forall_congr' fun s => by rw [low_ww qr kr sr Q Kc Sc hQ hK hS j ⟨n, h⟩ (by show n < j.val; omega) s l])

include hQ hK in
/-- A lane's sum of weights over all its chunks. -/
theorem lT_apply (j : Fin 14) (l : Fin 256) : lT Q Kc j (ix2 0 l) = ∑ k ∈ Finset.range (64 * (j.val + 1)), pw qr kr j.val l.val k := by
  rw [sum_chunk, ← lLow_apply qr kr Q Kc hQ hK j l j.val j.isLt.le le_rfl]
  refine (addRow_apply _ _ l).trans ?_
  congr 1
  exact Finset.sum_congr rfl fun s _ => diag_pw qr kr Q Kc hQ hK j s l
include hQ hK in
/-- A lane's greatest weight over all its chunks. -/
theorem mT_apply (j : Fin 14) (l : Fin 256) : mT Q Kc j (ix2 0 l) = mx (64 * (j.val + 1)) (pw qr kr j.val l.val) := by
  refine eq_of_forall_ge_iff fun b => ?_
  rw [mx_le, all_chunk, ← and_assoc, ← mLow_le qr kr Q Kc hQ hK j l b j.val j.isLt.le le_rfl]
  refine (maxRow_le _ _ l b).trans ?_
  exact and_congr Iff.rfl (forall_congr' fun s => by rw [diag_pw qr kr Q Kc hQ hK])
include hQ hK hS in
/-- A lane's greatest scaled weight over all its chunks. -/
theorem aT_apply (j : Fin 14) (l : Fin 256) : aT Q Kc Sc j (ix2 0 l) = mx (64 * (j.val + 1)) (ww qr kr sr j.val l.val) := by
  refine eq_of_forall_ge_iff fun b => ?_
  rw [mx_le, all_chunk, ← and_assoc, ← aLow_le qr kr sr Q Kc Sc hQ hK hS j l b j.val j.isLt.le le_rfl]
  refine (maxRow_le _ _ l b).trans ?_
  exact and_congr Iff.rfl (forall_congr' fun s => by rw [diag_ww qr kr sr Q Kc Sc hQ hK hS])

/-- What a row of weights holds after it is written. -/
theorem canon_wPiece (n : Fin 14) (p : FVec Ideal S64x256 .f32) (s : Vec Ideal S64x128 .f32) (L : List (View.Piece (Elt Ideal) S896x256 .f32))
    (k : Fin 896) (l : Fin 256) : View.canon (wPiece n p s :: L) (ix2 k l) =
      if h : 64 * n.val ≤ k.val ∧ k.val < 64 * n.val + 64 then tW p s (ix2 ⟨k.val - 64 * n.val, by omega⟩ l) else View.canon L (ix2 k l) := by
  split
  · rename_i h
    have he : (ix2 k l : S896x256.Idx) = (Rect.unit (s := S896x256) ![64 * n.val, 0] S64x256.size (inbW n)).emb (ix2 ⟨k.val - 64 * n.val, by omega⟩ l : S64x256.Idx) := by
      funext a; apply Fin.ext
      rw [unit_emb _ _ (inbW n)]
      fin_cases a
      · show k.val = 64 * n.val + (k.val - 64 * n.val); omega
      · show l.val = 0 + l.val; omega
    unfold wPiece
    rw [he, View.canon_cons_emb]
    show shapeCast S64x256 (tW p s) _ (ix2 _ l) = _
    pointwise
  · rename_i h
    refine View.canon_cons_of_not_mem _ _ fun hm => h ?_
    have := (Rect.mem_set_unit (inb := inbW n)).mp hm 0
    exact this

include hQ hK hS in
/-- The stored weights of the chunks below the diagonal. -/
theorem wLow_apply (j : Fin 14) (rest : List (View.Piece (Elt Ideal) S896x256 .f32)) (k : Fin 896) (l : Fin 256) : ∀ (n : ℕ) (h : n ≤ 14), n ≤ j.val → k.val < 64 * n →
    View.canon (wLow (Q j) Kc Sc rest n h) (ix2 k l) = ww qr kr sr j.val l.val k.val
  | 0, _, _, hk => absurd hk (by omega)
  | n + 1, h, hj, hk => by
    refine (canon_wPiece ⟨n, h⟩ _ _ _ k l).trans ?_
    split
    · rename_i hh
      rw [low_ww qr kr sr Q Kc Sc hQ hK hS j ⟨n, h⟩ (by show n < j.val; omega)]
      congr 1
      show 64 * n + (k.val - 64 * n) = k.val
      have := hh.1
      simp only at this; omega
    · rename_i hh
      exact wLow_apply j rest k l n (Nat.le_of_succ_le h) (by omega) (by simp only at hh; omega)
include hQ hK hS in
/-- The stored weights of all chunks of tile `j`, as they are read back. -/
theorem wT_apply (W : Memref sig .tc .vmem S896x256 .f32) (j : Fin 14) (k : Fin (64 * (j.val + 1))) (l : Fin 256) :
    wT Q Kc Sc W j (ix2 k l) = ww qr kr sr j.val l.val k.val := by
  have hk := k.isLt
  have hj := j.isLt
  unfold wT
  rw [View.readCov_eq_canon']
  have he : (Rect.unit (s := S896x256) ![0, 0] (⟨2, ![64 * (j.val + 1), 256]⟩ : Shape).size (inbWt j)).toLoadRect.idx (ix2 k l : (⟨2, ![64 * (j.val + 1), 256]⟩ : Shape).Idx)
      = (ix2 ⟨k.val, by omega⟩ l : S896x256.Idx) := by
    funext a; apply Fin.ext
    rw [unit_idx _ _ (inbWt j)]
    fin_cases a
    · show 0 + k.val = k.val; omega
    · show 0 + l.val = l.val; omega
  show View.canon _ ((Rect.unit (s := S896x256) ![0, 0] (⟨2, ![64 * (j.val + 1), 256]⟩ : Shape).size (inbWt j)).toLoadRect.idx (ix2 k l : (⟨2, ![64 * (j.val + 1), 256]⟩ : Shape).Idx)) = _
  rw [he]
  refine (canon_wPiece j _ _ _ _ l).trans ?_
  split
  · rename_i hh
    rw [diag_ww qr kr sr Q Kc Sc hQ hK hS j]
    congr 1
    show 64 * j.val + (k.val - 64 * j.val) = k.val
    have := hh.1
    simp only at this; omega
  · rename_i hh
    exact wLow_apply qr kr sr Q Kc Sc hQ hK hS j _ _ l j.val _ le_rfl (by simp only at hh ⊢; omega)

/-- A lane's result from its weights, the weights times value scales and the value codes. -/
def fin (n : ℕ) (p w : ℕ → EReal) (v : ℕ → EReal) : EReal :=
  (∑ k ∈ Finset.range n, v k * clip (w k * (Ideal.div 1 (mx n p) * Ideal.exp2 (0 - kExp (mx n w * Ideal.div 1 (mx n p))))))
    * Ideal.div (Ideal.exp2 (kExp (mx n w * Ideal.div 1 (mx n p)))) ((∑ k ∈ Finset.range n, p k) * Ideal.div 1 (mx n p))

include hQ hK hS hV in
/-- A tile of the attention, lane by lane. -/
theorem tile_apply (W : Memref sig .tc .vmem S896x256 .f32) (j : Fin 14) (l : Fin 256) (d : Fin 128) :
    tile Q Kc Sc Vt W j (ix2 l d) = fin (64 * (j.val + 1)) (pw qr kr j.val l.val) (ww qr kr sr j.val l.val) (fun k => vr k d) := by
  unfold tile fin
  rw [tileFin_apply, lT_apply qr kr Q Kc hQ hK, mT_apply qr kr Q Kc hQ hK, aT_apply qr kr sr Q Kc Sc hQ hK hS]
  simp only [wT_apply qr kr sr Q Kc Sc hQ hK hS, hV]
  rw [Fin.sum_univ_eq_sum_range (fun k => vr k d * clip (ww qr kr sr j.val l.val k * _))]
end
end Cert.KernelIdeal.Val
end
-- ==== Proof.Out.lean ====
module

public import proofs.«01_k».proof.Proof.Attn

/-! What a grid point leaves in each result's block, index by index, as a function of the point's blocks of queries, keys and
values. An array is read here as a function of a row and a column number. -/

@[expose] public section

noncomputable section

namespace Cert.KernelIdeal.Val

open Idealize.ShloMosaic Idealize.SL.Sem Cert.KernelIdeal.Gen Idealize.ShloMosaic.Pointwise Idealize.ShloMosaic.WordCmp

/-! ## The quantities of the specification -/

/-- The greatest absolute value of group `q` of `n` columns of row `s`. -/
def am (n : ℕ) (f : ℕ → ℕ → EReal) (s q : ℕ) : EReal :=
  Finset.univ.sup fun k : Fin n => FloatOps.absf (F := Ideal) (φ := .bf16) (f s (n * q + k.val))
/-- The code of an element under the scale of its group of `n` columns. -/
def cd (n : ℕ) (f : ℕ → ℕ → EReal) (s c : ℕ) : EReal := clip (f s c * kInv (am n f s (c / n)))
/-- Code times scale. -/
def dq (n : ℕ) (f : ℕ → ℕ → EReal) (s c : ℕ) : EReal := cd n f s c * kScale (am n f s (c / n))
/-- The weight of key `j` for the query `q` at row `s`. -/
def wt (q : ℕ → EReal) (k : ℕ → ℕ → EReal) (s j : ℕ) : EReal :=
  if j ≤ s then soft (∑ d : Fin 128, k j d.val * q d.val) else 0

/-! ## Pieces of 128 rows -/

section rows
variable {W : ℕ} {e : EltTy}
abbrev Arr (W : ℕ) : Shape := ⟨3, ![1, 896, W]⟩
abbrev Blk (W : ℕ) : Shape := ⟨3, ![1, 128, W]⟩
/-- Row block `i` lies inside an array of 896 rows. -/
theorem inbR (W : ℕ) (i : Fin 7) : ∀ a : Fin (Nat.succ 2), ![0, 128 * i.val, 0] a + (Blk W).size a ≤ (Arr W).size a := by
  intro a; fin_cases a <;> simp [Blk, Arr] <;> omega
/-- The store of 128 whole rows. -/
def rowP (i : Fin 7) (f : (Blk W).Idx → Elt Ideal e) : View.Piece (Elt Ideal) (Arr W) e :=
  ⟨Rect.unit (s := Arr W) ![0, 128 * i.val, 0] (Blk W).size (inbR W i), f⟩

/-- What an array holds after one more row block is stored. -/
theorem canon_row_cons (i : Fin 7) (f : (Blk W).Idx → Elt Ideal e) (L : List (View.Piece (Elt Ideal) (Arr W) e)) (s : Fin 896) (c : Fin W) :
    View.canon (rowP i f :: L) (ix3 0 s c) =
      if h : 128 * i.val ≤ s.val ∧ s.val < 128 * i.val + 128 then f (ix3 0 ⟨s.val - 128 * i.val, by omega⟩ c) else View.canon L (ix3 0 s c) := by
  split
  · rename_i h
    have he : (ix3 0 s c : (Arr W).Idx) = (Rect.unit (s := Arr W) ![0, 128 * i.val, 0] (Blk W).size (inbR W i)).emb (ix3 0 ⟨s.val - 128 * i.val, by omega⟩ c : (Blk W).Idx) := by
      funext a; apply Fin.ext
      rw [unit_emb _ _ (inbR W i)]
      fin_cases a
      · rfl
      · show s.val = 128 * i.val + (s.val - 128 * i.val); omega
      · show c.val = 0 + c.val; omega
    unfold rowP
    rw [he, View.canon_cons_emb]
  · rename_i h
    refine View.canon_cons_of_not_mem _ _ fun hm => h ?_
    exact (Rect.mem_set_unit (inb := inbR W i)).mp hm 1

/-- What an array holds after all seven row blocks are stored. -/
theorem canon_rows (f : Fin 7 → (Blk W).Idx → Elt Ideal e) (s : Fin 896) (c : Fin W) :
    View.canon ([6, 5, 4, 3, 2, 1, 0].map fun i : Fin 7 => rowP i (f i)) (ix3 0 s c) = f (ix 7 (s.val / 128)) (ix3 0 (ix 128 s.val) c) := by
  have hs := s.isLt
  have key : ∀ i : Fin 7, (h : 128 * i.val ≤ s.val ∧ s.val < 128 * i.val + 128) →
      f i (ix3 0 ⟨s.val - 128 * i.val, by omega⟩ c) = f (ix 7 (s.val / 128)) (ix3 0 (ix 128 s.val) c) := by
    intro i h
    have h1 : ix 7 (s.val / 128) = i := ix_of _ i (by omega)
    have h2 : ix 128 s.val = ⟨s.val - 128 * i.val, by omega⟩ := Fin.ext (by simp only [ix]; omega)
    rw [h1, h2]
  simp only [List.map_cons, List.map_nil, canon_row_cons]
  split
  · exact key 6 (by assumption)
  split
  · exact key 5 (by assumption)
  split
  · exact key 4 (by assumption)
  split
  · exact key 3 (by assumption)
  split
  · exact key 2 (by assumption)
  split
  · exact key 1 (by assumption)
  split
  · exact key 0 (by assumption)
  · exfalso
    simp only [show ((6 : Fin 7).val) = 6 from rfl, show ((5 : Fin 7).val) = 5 from rfl, show ((4 : Fin 7).val) = 4 from rfl,
      show ((3 : Fin 7).val) = 3 from rfl, show ((2 : Fin 7).val) = 2 from rfl, show ((1 : Fin 7).val) = 1 from rfl,
      show ((0 : Fin 7).val) = 0 from rfl] at *
    omega

/-- A row block read back from what is stored. -/
theorem readCov_row (v : View sig .tc .vmem (Arr W) e) (L : List (View.Piece (Elt Ideal) (Arr W) e)) (i : Fin 7) (r : Fin 128) (c : Fin W) :
    v.readCov L (Rect.unit (s := Arr W) ![0, 128 * i.val, 0] (Blk W).size (inbR W i)).toLoadRect (ix3 0 r c : (Blk W).Idx)
      = View.canon L (ix3 0 ⟨128 * i.val + r.val, by omega⟩ c) := by
  rw [View.readCov_eq_canon']
  refine congrArg (View.canon L) (funext fun a => Fin.ext ?_)
  refine (unit_idx _ _ (inbR W i) _ a).trans ?_
  fin_cases a
  · rfl
  · rfl
  · show 0 + c.val = c.val; omega

/-- Row blocks stored one after another, each from what is already there: every row takes its step once. -/
theorem canon_acc (v : View sig .tc .vmem (Arr W) e) (LA : (n : ℕ) → n ≤ 7 → List (View.Piece (Elt Ideal) (Arr W) e))
    (f : Fin 7 → ((Blk W).Idx → Elt Ideal e) → (Blk W).Idx → Elt Ideal e) (st : ℕ → Fin W → Elt Ideal e → Elt Ideal e) (z : Elt Ideal e)
    (h0 : ∀ h s c, View.canon (LA 0 h) (ix3 0 s c) = z)
    (hs : ∀ n (h : n + 1 ≤ 7), LA (n + 1) h = rowP ⟨n, h⟩ (f ⟨n, h⟩ (v.readCov (LA n (Nat.le_of_succ_le h))
      (Rect.unit (s := Arr W) ![0, 128 * n, 0] (Blk W).size (inbR W ⟨n, h⟩)).toLoadRect)) :: LA n (Nat.le_of_succ_le h))
    (hf : ∀ i p r c, f i p (ix3 0 r c) = st (128 * i.val + r.val) c (p (ix3 0 r c))) :
    ∀ (n : ℕ) (h : n ≤ 7) (s : Fin 896) (c : Fin W), View.canon (LA n h) (ix3 0 s c) = if s.val < 128 * n then st s.val c z else z
  | 0, h, s, c => by rw [h0]; simp
  | n + 1, h, s, c => by
    rw [hs, canon_row_cons]
    split
    · rename_i hh
      simp only at hh
      rw [hf, readCov_row v _ ⟨n, h⟩, canon_acc v LA f st z h0 hs hf n, if_neg (by simp only; omega), if_pos (by omega)]
      congr 1
      simp only; omega
    · rename_i hh
      simp only at hh
      rw [canon_acc v LA f st z h0 hs hf n]
      refine if_congr ?_ rfl rfl
      omega

/-- A row block read from a whole buffer. -/
theorem readAt_row (M : Memref sig .tc .vmem (Arr W) e) (h : M.IsWhole) (x : Vec Ideal (Arr W) e) (i : Fin 7) (r : Fin 128) (c : Fin W) :
    View.readAt (Elt Ideal) M.view (Rect.unit (s := Arr W) ![0, 128 * i.val, 0] (Blk W).size (inbR W i)).toLoadRect (h.unread x) (ix3 0 r c : (Blk W).Idx)
      = x (ix3 0 ⟨128 * i.val + r.val, by omega⟩ c) := by
  rw [View.readAt_eq_ld, h.read_unread, View.ld_unit]
  refine congrArg x (funext fun a => Fin.ext ?_)
  fin_cases a
  · rfl
  · rfl
  · show 0 + c.val = c.val; omega
end rows

/-- A row number from its row block and its place there. -/
theorem row_split (s : Fin 896) : 128 * (ix 7 (s.val / 128)).val + (ix 128 s.val).val = s.val := by
  have hs := s.isLt
  simp only [ix]; omega

section
variable (X : Fin 7 → Fin 4 → Vec Ideal S1x128x128 .bf16) (K V : Fin 7 → Vec Ideal S1x128x128 .bf16)
variable (x k v : ℕ → ℕ → EReal)
variable (hX : ∀ i g r c, X i g (ix3 0 r c) = x (128 * i.val + r.val) (128 * g.val + c.val))
  (hK : ∀ i r c, K i (ix3 0 r c) = k (128 * i.val + r.val) c.val) (hV : ∀ i r c, V i (ix3 0 r c) = v (128 * i.val + r.val) c.val)

include hX in
/-- The largest magnitude of a group of a block of queries, by row and group of the head's columns. -/
theorem gMax_X (i : Fin 7) (g : Fin 4) (r : Fin 128) (q : ℕ) (hq : q < 4) : gMax (X i g) r q = am 32 x (128 * i.val + r.val) (4 * g.val + q) := by
  unfold gMax am mag
  refine Finset.sup_congr rfl fun j _ => ?_
  rw [hX]
  have hj := j.isLt
  congr 2
  simp only; omega
include hK in
/-- The largest magnitude of a group of a block of keys, by row and group. -/
theorem gMax_K (i : Fin 7) (r : Fin 128) (q : ℕ) (hq : q < 4) : gMax (K i) r q = am 32 k (128 * i.val + r.val) q := by
  unfold gMax am mag
  refine Finset.sup_congr rfl fun j _ => ?_
  rw [hK]
  have hj := j.isLt
  congr 2
  simp only; omega
include hV in
/-- The largest magnitude of a row of a block of values. -/
theorem vMax_V (i : Fin 7) (r : Fin 128) : vMax (V i) r = am 128 v (128 * i.val + r.val) 0 := by
  unfold vMax am mag
  refine Finset.sup_congr rfl fun j _ => ?_
  rw [hV]
  have hj := j.isLt
  congr 2
  simp only; omega

include hX in
/-- A query's code, by row and column. -/
theorem gCodes_X (i : Fin 7) (g : Fin 4) (r c : Fin 128) : gCodes (X i g) (ix2 r c) = cd 32 x (128 * i.val + r.val) (128 * g.val + c.val) := by
  rw [gCodes_apply, gMax_X X x hX _ _ _ _ (by omega), hX]
  unfold cd
  rw [show 4 * g.val + c.val / 32 = (128 * g.val + c.val) / 32 by omega]
include hX in
/-- A query's code times its scale, by row and column. -/
theorem gDeq_X (i : Fin 7) (g : Fin 4) (r c : Fin 128) : gDeq (X i g) (ix2 r c) = dq 32 x (128 * i.val + r.val) (128 * g.val + c.val) := by
  rw [gDeq_apply, gMax_X X x hX _ _ _ _ (by omega), hX]
  unfold dq cd
  rw [show 4 * g.val + c.val / 32 = (128 * g.val + c.val) / 32 by omega]
include hK in
/-- A key's code, by row and column. -/
theorem gCodes_K (i : Fin 7) (r c : Fin 128) : gCodes (K i) (ix2 r c) = cd 32 k (128 * i.val + r.val) c.val := by
  rw [gCodes_apply, gMax_K K k hK _ _ _ (by omega), hK]; rfl
include hK in
/-- A key's code times its scale, by row and column. -/
theorem gDeq_K (i : Fin 7) (r c : Fin 128) : gDeq (K i) (ix2 r c) = dq 32 k (128 * i.val + r.val) c.val := by
  rw [gDeq_apply, gMax_K K k hK _ _ _ (by omega), hK]; rfl
include hV in
/-- A value's code, by row and column. -/
theorem vCodes_V (i : Fin 7) (r c : Fin 128) : vCodes (V i) (ix2 r c) = cd 128 v (128 * i.val + r.val) c.val := by
  rw [vCodes_apply, vMax_V V v hV, hV]
  unfold cd
  rw [Nat.div_eq_of_lt c.isLt]
include hV in
/-- A value row's scale, by row. -/
theorem vScale_V (i : Fin 7) (r c : Fin 128) : vScale (V i) (ix2 r c) = kScale (am 128 v (128 * i.val + r.val) 0) := by
  rw [vScale_apply, vMax_V V v hV]

/-! ## Codes -/

include hX in
/-- The stored query codes of a head. -/
theorem qc_apply (s : Fin 896) (c : Fin 512) : View.canon (qcL X) (ix3 0 s c) = cd 32 x s.val c.val := by
  have hs := s.isLt
  have hc := c.isLt
  refine (View.canon_apply_of_pieces (fun y : S1x896x512.Idx => (cd 32 x (y 1).val (y 2).val : EReal)) (qcL X) ?_ (ix3 0 s c) ?_)
  · intro p hp y
    obtain ⟨i, _, hp⟩ := List.mem_flatMap.mp hp
    obtain ⟨g, _, rfl⟩ := List.mem_map.mp hp
    obtain ⟨r, c, rfl⟩ : ∃ (r c : Fin 128), y = ix3 0 r c := ⟨y 1, y 2, funext fun a => by
      fin_cases a
      · exact Fin.ext (by have := (y 0).isLt; show (y 0).val = 0; change (y 0).val < 1 at this; omega)
      · rfl
      · rfl⟩
    have h1 : ((qcP X i g).1.emb (ix3 0 r c) 1).val = 128 * i.val + r.val := unit_emb _ _ (inbX i g) _ 1
    have h2 : ((qcP X i g).1.emb (ix3 0 r c) 2).val = 128 * g.val + c.val := unit_emb _ _ (inbX i g) _ 2
    rw [h1, h2, ← gCodes_X X x hX]
    show shapeCast S1x128x128 (gCodes (X i g)) _ (ix3 0 r c) = _
    pointwise
  · refine ⟨qcP X ⟨s.val / 128, by omega⟩ ⟨c.val / 128, by omega⟩, List.mem_flatMap.mpr ⟨_, mem7 _, List.mem_map.mpr ⟨_, mem4 _, rfl⟩⟩, ?_⟩
    refine (Rect.mem_set_unit (inb := inbX _ _)).mpr fun a => ?_
    fin_cases a
    · show 0 ≤ 0 ∧ 0 < 0 + 1; omega
    · show 128 * (s.val / 128) ≤ s.val ∧ s.val < 128 * (s.val / 128) + 128; omega
    · show 128 * (c.val / 128) ≤ c.val ∧ c.val < 128 * (c.val / 128) + 128; omega

include hK in
/-- The stored key codes of a head. -/
theorem kc_apply (s : Fin 896) (c : Fin 128) : View.canon (kcL K) (ix3 0 s c) = cd 32 k s.val c.val := by
  have hs := s.isLt
  refine (canon_rows (W := 128) (e := .fp8e4m3) (fun i => shapeCast S1x128x128 (gCodes (K i)) shapeCasts_S128x128_S1x128x128) s c).trans ?_
  have h := gCodes_K K k hK (ix 7 (s.val / 128)) (ix 128 s.val) c
  rw [row_split] at h
  rw [← h]
  pointwise
include hV in
/-- The stored value codes of a head. -/
theorem vc_apply (s : Fin 896) (c : Fin 128) : View.canon (vcL V) (ix3 0 s c) = cd 128 v s.val c.val := by
  have hs := s.isLt
  refine (canon_rows (W := 128) (e := .fp8e4m3) (fun i => shapeCast S1x128x128 (vCodes (V i)) shapeCasts_S128x128_S1x128x128) s c).trans ?_
  have h := vCodes_V V v hV (ix 7 (s.val / 128)) (ix 128 s.val) c
  rw [row_split] at h
  rw [← h]
  pointwise

/-! ## Scales -/

/-- What head `h` of a batch adds to a column of the query scales … -/
def qInc (h s c : ℕ) : EReal := if c / 16 = h then kScale (am 32 x s (c % 16)) else 0
/-- … of the key scales … -/
def kInc (h s c : ℕ) : EReal := if c / 4 = h then kScale (am 32 k s (c % 4)) else 0
/-- … and what it leaves in a column of the value scales. -/
def vInc (h s c : ℕ) (p : EReal) : EReal := if c = h then kScale (am 128 v s 0) else p

include hX in
/-- The scales of a head's queries in their columns, by row. -/
theorem qSum_X (h : ℕ) (hh : h < 8) (i : Fin 7) (r c : Fin 128) : qSum X (BitVec.ofNat 32 h) i (ix2 r c) = qInc x h (128 * i.val + r.val) c.val := by
  rw [qSum_apply X h hh, gMax_X X x hX _ _ _ _ (by omega)]
  unfold qInc
  rw [show 4 * (⟨c.val % 16 / 4, by omega⟩ : Fin 4).val + c.val % 4 = c.val % 16 by simp only; omega]
include hX in
/-- One store of query scales adds the head's scales. -/
theorem qsP_apply (h : ℕ) (hh : h < 8) (i : Fin 7) (p : Vec Ideal S1x128x128 .f32) (r c : Fin 128) :
    (qsP X (BitVec.ofNat 32 h) i p).2 (ix3 0 r c) = p (ix3 0 r c) + qInc x h (128 * i.val + r.val) c.val := by
  rw [← qSum_X X x hX h hh]
  show (shapeCast S1x128x128 (addf (shapeCast S128x128 p shapeCasts_S1x128x128_S128x128) (qSum X (BitVec.ofNat 32 h) i)) shapeCasts_S128x128_S1x128x128 : FVec Ideal S1x128x128 .f32) (ix3 0 r c) = _
  pointwise
include hK in
/-- One store of key scales adds the head's scales. -/
theorem kssP_apply (h : ℕ) (hh : h < 8) (i : Fin 7) (p : Vec Ideal S1x128x32 .f32) (r : Fin 128) (c : Fin 32) :
    (kssP K (BitVec.ofNat 32 h) i p).2 (ix3 0 r c) = p (ix3 0 r c) + kInc k h (128 * i.val + r.val) c.val := by
  have hc := c.isLt
  have h4 : firstK (BitVec.ofNat 32 h) = BitVec.ofNat 32 (4 * h) := by
    unfold firstK; rw [Nat.mul_comm]; exact (BitVec.ofNat_mul ..).symm
  have hg := gSc_apply (K i) (4 * h) (by omega) r ⟨c.val, by omega⟩
  show (shapeCast S1x128x32 (addf (shapeCast S128x32 p shapeCasts_S1x128x32_S128x32)
    (extractStridedSlice S128x32 ![0, 0] (gSc (K i) (firstK (BitVec.ofNat 32 h))) slices_S128x128_o0_0_S128x32)) shapeCasts_S128x32_S1x128x32 : FVec Ideal S1x128x32 .f32) (ix3 0 r c) = _
  rw [h4]
  pointwise
  refine congrArg (p (ix3 0 r c) + ·) ?_
  refine Eq.trans ?_ (hg.trans ?_)
  · rfl
  · unfold kInc
    simp only
    by_cases hq : c.val / 4 = h
    · rw [if_pos (by omega), if_pos hq, gMax_K K k hK _ _ _ (by omega), show c.val - 4 * h = c.val % 4 by omega]
    · rw [if_neg (by omega), if_neg hq]
include hV in
/-- One store of value scales puts the head's column in. -/
theorem vssP_apply (h : ℕ) (hh : h < 8) (i : Fin 7) (p : Vec Ideal S1x128x8 .f32) (r : Fin 128) (c : Fin 8) :
    (vssP V (BitVec.ofNat 32 h) i p).2 (ix3 0 r c) = vInc v h (128 * i.val + r.val) c.val (p (ix3 0 r c)) := by
  have hc := c.isLt
  have hw : (cmpi .eq (iota .tc S128x8 32 [1] iota_S128x8_d1_w32) (broadcast S128x8 (BitVec.ofNat 32 h)) : IVec S128x8 1) (ix2 r c) = 1#1 ↔ c.val = h := by
    pointwise
    exact cmpi_eq_ofNat_eq_one_iff (by omega) (by omega)
  unfold vInc
  rw [← select_of _ _ hw, ← vScale_V V v hV i r ⟨c.val, by omega⟩]
  unfold vssP
  dsimp only
  pointwise

include hX in
/-- The query scales after a batch's first head. -/
theorem qsA_apply (h : ℕ) (hh : h < 8) (M : Memref sig .tc .vmem S1x896x128 .f32) (s : Fin 896) (c : Fin 128) :
    View.canon (qsLA X M (BitVec.ofNat 32 h) 7 le_rfl) (ix3 0 s c) = 0 + qInc x h s.val c.val := by
  refine (canon_acc (W := 128) M.view (fun n hn => qsLA X M (BitVec.ofNat 32 h) n hn) (fun i p => (qsP X (BitVec.ofNat 32 h) i p).2)
    (fun s c p => (p + qInc x h s c.val : EReal)) (0 : EReal) ?_ (fun n hn => rfl) (fun i p r c => qsP_apply X x hX h hh i p r c) 7 le_rfl s c).trans (if_pos s.isLt)
  intro _ s c
  have he : (ix3 0 s c : S1x896x128.Idx) = (Rect.unit (s := S1x896x128) ![0, 0, 0] S1x896x128.size inb_S1x896x128_S1x896x128_0_0_0).emb (ix3 0 s c : S1x896x128.Idx) := by
    funext a; apply Fin.ext
    rw [unit_emb _ _ inb_S1x896x128_S1x896x128_0_0_0]
    fin_cases a <;> simp
  unfold qsLA
  rw [he, View.canon_cons_emb]
  unfold k0_pay5
  pointwise
include hK in
/-- The key scales after a batch's first head. -/
theorem kssA_apply (h : ℕ) (hh : h < 8) (M : Memref sig .tc .vmem S1x896x32 .f32) (s : Fin 896) (c : Fin 32) :
    View.canon (kssLA K M (BitVec.ofNat 32 h) 7 le_rfl) (ix3 0 s c) = 0 + kInc k h s.val c.val := by
  refine (canon_acc (W := 32) M.view (fun n hn => kssLA K M (BitVec.ofNat 32 h) n hn) (fun i p => (kssP K (BitVec.ofNat 32 h) i p).2)
    (fun s c p => (p + kInc k h s c.val : EReal)) (0 : EReal) ?_ (fun n hn => rfl) (fun i p r c => kssP_apply K k hK h hh i p r c) 7 le_rfl s c).trans (if_pos s.isLt)
  intro _ s c
  have he : (ix3 0 s c : S1x896x32.Idx) = (Rect.unit (s := S1x896x32) ![0, 0, 0] S1x896x32.size inb_S1x896x32_S1x896x32_0_0_0).emb (ix3 0 s c : S1x896x32.Idx) := by
    funext a; apply Fin.ext
    rw [unit_emb _ _ inb_S1x896x32_S1x896x32_0_0_0]
    fin_cases a <;> simp
  unfold kssLA
  rw [he, View.canon_cons_emb]
  unfold k0_pay6
  pointwise
include hV in
/-- The value scales after a batch's first head. -/
theorem vssA_apply (h : ℕ) (hh : h < 8) (M : Memref sig .tc .vmem S1x896x8 .f32) (s : Fin 896) (c : Fin 8) :
    View.canon (vssLA V M (BitVec.ofNat 32 h) 7 le_rfl) (ix3 0 s c) = vInc v h s.val c.val 0 := by
  refine (canon_acc (W := 8) M.view (fun n hn => vssLA V M (BitVec.ofNat 32 h) n hn) (fun i p => (vssP V (BitVec.ofNat 32 h) i p).2)
    (fun s c p => vInc v h s c.val p) (0 : EReal) ?_ (fun n hn => rfl) (fun i p r c => vssP_apply V v hV h hh i p r c) 7 le_rfl s c).trans (if_pos s.isLt)
  intro _ s c
  have he : (ix3 0 s c : S1x896x8.Idx) = (Rect.unit (s := S1x896x8) ![0, 0, 0] S1x896x8.size inb_S1x896x8_S1x896x8_0_0_0).emb (ix3 0 s c : S1x896x8.Idx) := by
    funext a; apply Fin.ext
    rw [unit_emb _ _ inb_S1x896x8_S1x896x8_0_0_0]
    fin_cases a <;> simp
  unfold vssLA
  rw [he, View.canon_cons_emb]
  unfold k0_pay7
  pointwise

include hX in
/-- The query scales after a later head, from those before it. -/
theorem qsB_apply (h : ℕ) (hh : h < 8) (M : Memref sig .tc .vmem S1x896x128 .f32) (w : M.IsWhole) (p : Vec Ideal S1x896x128 .f32) (s : Fin 896) (c : Fin 128) :
    View.canon (qsLB X (BitVec.ofNat 32 h) fun i => View.readAt (Elt Ideal) M.view (Rect.unit (s := S1x896x128) ![0, 128 * i.val, 0] S1x128x128.size (inbK i)).toLoadRect (w.unread p))
      (ix3 0 s c) = p (ix3 0 s c) + qInc x h s.val c.val := by
  refine (canon_rows (W := 128) (e := .f32) (fun i => (qsP X (BitVec.ofNat 32 h) i (View.readAt (Elt Ideal) M.view (Rect.unit (s := S1x896x128) ![0, 128 * i.val, 0] S1x128x128.size (inbK i)).toLoadRect (w.unread p))).2) s c).trans ?_
  rw [qsP_apply X x hX h hh, row_split]
  refine congrArg (· + qInc x h s.val c.val) ((readAt_row M w p _ _ c).trans ?_)
  exact congrArg (fun y => p (ix3 0 y c)) (Fin.ext (row_split s))
include hK in
/-- The key scales after a later head, from those before it. -/
theorem kssB_apply (h : ℕ) (hh : h < 8) (M : Memref sig .tc .vmem S1x896x32 .f32) (w : M.IsWhole) (p : Vec Ideal S1x896x32 .f32) (s : Fin 896) (c : Fin 32) :
    View.canon (kssLB K (BitVec.ofNat 32 h) fun i => View.readAt (Elt Ideal) M.view (Rect.unit (s := S1x896x32) ![0, 128 * i.val, 0] S1x128x32.size (inbKS32 i)).toLoadRect (w.unread p))
      (ix3 0 s c) = p (ix3 0 s c) + kInc k h s.val c.val := by
  refine (canon_rows (W := 32) (e := .f32) (fun i => (kssP K (BitVec.ofNat 32 h) i (View.readAt (Elt Ideal) M.view (Rect.unit (s := S1x896x32) ![0, 128 * i.val, 0] S1x128x32.size (inbKS32 i)).toLoadRect (w.unread p))).2) s c).trans ?_
  rw [kssP_apply K k hK h hh, row_split]
  refine congrArg (· + kInc k h s.val c.val) ((readAt_row M w p _ _ c).trans ?_)
  exact congrArg (fun y => p (ix3 0 y c)) (Fin.ext (row_split s))
include hV in
/-- The value scales after a later head, from those before it. -/
theorem vssB_apply (h : ℕ) (hh : h < 8) (M : Memref sig .tc .vmem S1x896x8 .f32) (w : M.IsWhole) (p : Vec Ideal S1x896x8 .f32) (s : Fin 896) (c : Fin 8) :
    View.canon (vssLB V (BitVec.ofNat 32 h) fun i => View.readAt (Elt Ideal) M.view (Rect.unit (s := S1x896x8) ![0, 128 * i.val, 0] S1x128x8.size (inbVS8 i)).toLoadRect (w.unread p))
      (ix3 0 s c) = vInc v h s.val c.val (p (ix3 0 s c)) := by
  refine (canon_rows (W := 8) (e := .f32) (fun i => (vssP V (BitVec.ofNat 32 h) i (View.readAt (Elt Ideal) M.view (Rect.unit (s := S1x896x8) ![0, 128 * i.val, 0] S1x128x8.size (inbVS8 i)).toLoadRect (w.unread p))).2) s c).trans ?_
  rw [vssP_apply V v hV h hh, row_split]
  refine congrArg (vInc v h s.val c.val) ((readAt_row M w p _ _ c).trans ?_)
  exact congrArg (fun y => p (ix3 0 y c)) (Fin.ext (row_split s))

/-! ## The attention's output -/

/-- One element of the attention's result: row `s`, query column block from `c`, value column `d`. -/
def att (s cq d : ℕ) : EReal :=
  fin (64 * (s / 64 + 1)) (wt (fun d => dq 32 x s (cq + d)) (dq 32 k) s)
    (fun j => wt (fun d => dq 32 x s (cq + d)) (dq 32 k) s j * kScale (am 128 v j 0)) (fun j => cd 128 v j d)

/-- A lane's result depends on the first `n` weights and codes alone. -/
theorem fin_congr (n : ℕ) {p p' w w' u u' : ℕ → EReal} (hp : ∀ j < n, p j = p' j) (hw : ∀ j < n, w j = w' j) (hu : ∀ j < n, u j = u' j) :
    fin n p w u = fin n p' w' u' := by
  have hm : mx n p = mx n p' := by
    unfold mx; rw [Finset.sup_congr rfl fun j hj => hp j (Finset.mem_range.mp hj)]
  have hm' : mx n w = mx n w' := by
    unfold mx; rw [Finset.sup_congr rfl fun j hj => hw j (Finset.mem_range.mp hj)]
  unfold fin
  rw [hm, hm', Finset.sum_congr rfl fun j hj => hp j (Finset.mem_range.mp hj)]
  congr 1
  exact Finset.sum_congr rfl fun j hj => by rw [hw j (Finset.mem_range.mp hj), hu j (Finset.mem_range.mp hj)]

include hK in
/-- A row of the scratch buffer of keys. -/
theorem kRow_K (s : ℕ) (hs : s < 896) (d : Fin 128) : kRow K s d = dq 32 k s d.val := by
  have h := gDeq_K K k hK (ix 7 (s / 128)) (ix 128 s) d
  rw [row_split ⟨s, hs⟩] at h
  exact h
include hV in
/-- A row of the scratch buffer of value codes. -/
theorem vRow_V (s : ℕ) (hs : s < 896) (d : Fin 128) : vRow V s d = cd 128 v s d.val := by
  have h := vCodes_V V v hV (ix 7 (s / 128)) (ix 128 s) d
  rw [row_split ⟨s, hs⟩] at h
  exact h
include hV in
/-- A row of the scratch buffer of value scales. -/
theorem sRow_V (s : ℕ) (hs : s < 896) (d : Fin 128) : sRow V s d = kScale (am 128 v s 0) := by
  have h := vScale_V V v hV (ix 7 (s / 128)) (ix 128 s) d
  rw [row_split ⟨s, hs⟩] at h
  exact h
include hX in
/-- A row of the scratch buffer of queries: tile `j`, part `t`, head `g`, row `r`. -/
theorem qRow_X (j : Fin 14) (t : Fin 2) (g : Fin 4) (r : Fin 32) (d : Fin 128) :
    qRow X (256 * j.val + (128 * t.val + 32 * g.val + r.val)) d = dq 32 x (64 * j.val + 32 * t.val + r.val) (128 * g.val + d.val) := by
  have hj := j.isLt
  have ht := t.isLt
  have hg := g.isLt
  have hr := r.isLt
  have e1 : (256 * j.val + (128 * t.val + 32 * g.val + r.val)) / 512 = j.val / 2 := by omega
  have e2 : (256 * j.val + (128 * t.val + 32 * g.val + r.val)) / 128 % 4 = 2 * (j.val % 2) + t.val := by omega
  have e3 : (256 * j.val + (128 * t.val + 32 * g.val + r.val)) % 32 = r.val := by omega
  have e4 : (256 * j.val + (128 * t.val + 32 * g.val + r.val)) / 32 = 8 * j.val + 4 * t.val + g.val := by omega
  unfold qRow
  rw [gDeq_X X x hX, e1, e2, e3, e4]
  clear e1 e2 e3 e4
  have e5 : j.val / 2 % 7 = j.val / 2 := Nat.mod_eq_of_lt (by omega)
  have e6 : (32 * (2 * (j.val % 2) + t.val) + r.val) % 128 = 32 * (2 * (j.val % 2) + t.val) + r.val := Nat.mod_eq_of_lt (by omega)
  have e7 : (8 * j.val + 4 * t.val + g.val) % 4 = g.val := by omega
  congr 1
  · simp only [ix]; rw [e5, e6]; omega
  · simp only [ix]; rw [e7]

include hX hK hV in
/-- The stored attention result of a head, element by element. -/
theorem out_apply (M12 : Memref sig .tc .vmem S3584x128 .bf16) (M13 : Memref sig .tc .vmem S896x128 .bf16) (M14 : Memref sig .tc .vmem S128x896 .fp8e4m3)
    (M15 : Memref sig .tc .vmem S896x128 .f32) (M16 : Memref sig .tc .vmem S896x256 .f32) (s : Fin 896) (c : Fin 512) :
    View.canon (outL X K V M12 M13 M14 M15 M16) (ix3 0 s c) = att x k v s.val (128 * (c.val / 128)) (c.val % 128) := by
  have hs := s.isLt
  have hc := c.isLt
  refine (View.canon_apply_of_pieces (fun y : S1x896x512.Idx => (att x k v (y 1).val (128 * ((y 2).val / 128)) ((y 2).val % 128) : EReal))
    (outL X K V M12 M13 M14 M15 M16) ?_ (ix3 0 s c) ?_)
  · intro p hp y
    obtain ⟨j, _, hp⟩ := List.mem_flatMap.mp hp
    obtain ⟨t, _, hp⟩ := List.mem_flatMap.mp hp
    obtain ⟨g, _, rfl⟩ := List.mem_map.mp hp
    obtain ⟨r, d, rfl⟩ : ∃ (r : Fin 32) (d : Fin 128), y = ix3 0 r d := ⟨y 1, y 2, funext fun a => by
      fin_cases a
      · exact Fin.ext (by have := (y 0).isLt; show (y 0).val = 0; change (y 0).val < 1 at this; omega)
      · rfl
      · rfl⟩
    have h1 : ((oP (rQ X M12) (rK K M13) (rS V M15) (rV V M14) M16 j t g).1.emb (ix3 0 r d) 1).val = 64 * j.val + 32 * t.val + r.val := unit_emb _ _ (inbO j t g) _ 1
    have h2 : ((oP (rQ X M12) (rK K M13) (rS V M15) (rV V M14) M16 j t g).1.emb (ix3 0 r d) 2).val = 128 * g.val + d.val := unit_emb _ _ (inbO j t g) _ 2
    have hj := j.isLt
    have ht := t.isLt
    have hg := g.isLt
    have hr := r.isLt
    have hd := d.isLt
    rw [h1, h2, show (128 * g.val + d.val) / 128 = g.val by omega, show (128 * g.val + d.val) % 128 = d.val by omega]
    have hl := tile_apply (qRow X) (kRow K) (sRow V) (vRow V) (rQ X M12) (rK K M13) (rS V M15) (rV V M14)
      (rQ_apply X M12) (rK_apply K M13) (rS_apply V M15) (rV_apply V M14) M16 j ⟨128 * t.val + 32 * g.val + r.val, by omega⟩ d
    refine Eq.trans (b := tile (rQ X M12) (rK K M13) (rS V M15) (rV V M14) M16 j (ix2 ⟨128 * t.val + 32 * g.val + r.val, by omega⟩ d)) ?_ (hl.trans ?_)
    · show shapeCast S1x32x128 (extractStridedSlice S32x128 ![128 * t.val + 32 * g.val, 0] (tile (rQ X M12) (rK K M13) (rS V M15) (rV V M14) M16 j) (slO t g)) _ (ix3 0 r d) = _
      pointwise
    · unfold att
      rw [show (64 * j.val + 32 * t.val + r.val) / 64 = j.val by omega]
      have hw : ∀ i < 64 * (j.val + 1), pw (qRow X) (kRow K) j.val (128 * t.val + 32 * g.val + r.val) i
          = wt (fun d => dq 32 x (64 * j.val + 32 * t.val + r.val) (128 * g.val + d)) (dq 32 k) (64 * j.val + 32 * t.val + r.val) i := by
        intro i hi
        unfold pw wt dt
        refine if_congr ?_ ?_ rfl
        · unfold lrow; omega
        · simp only [kRow_K K k hK i (by omega), qRow_X X x hX]
      refine fin_congr _ hw (fun i hi => ?_) (fun i hi => vRow_V V v hV i (by omega) d)
      unfold ww
      rw [hw i hi, sRow_V V v hV i (by omega)]
  · refine ⟨oP _ _ _ _ _ ⟨s.val / 64, by omega⟩ ⟨s.val % 64 / 32, by omega⟩ ⟨c.val / 128, by omega⟩, List.mem_flatMap.mpr ⟨⟨s.val / 64, by omega⟩, ?_,
      List.mem_flatMap.mpr ⟨⟨s.val % 64 / 32, by omega⟩, ?_, List.mem_map.mpr ⟨_, mem4 _, rfl⟩⟩⟩, ?_⟩
    · generalize (⟨s.val / 64, by omega⟩ : Fin 14) = z; fin_cases z <;> simp
    · generalize (⟨s.val % 64 / 32, by omega⟩ : Fin 2) = z; fin_cases z <;> simp
    refine (Rect.mem_set_unit (inb := inbO _ _ _)).mpr fun a => ?_
    fin_cases a
    · show 0 ≤ 0 ∧ 0 < 0 + 1; omega
    · show 64 * (s.val / 64) + 32 * (s.val % 64 / 32) ≤ s.val ∧ s.val < 64 * (s.val / 64) + 32 * (s.val % 64 / 32) + 32; omega
    · show 128 * (c.val / 128) ≤ c.val ∧ c.val < 128 * (c.val / 128) + 128; omega

end
end Cert.KernelIdeal.Val
end
-- ==== Proof.Arr.lean ====
module

public import proofs.«01_k».proof.Proof.Out
public import proofs.«01_k».proof.Proof.Gen.KernelIdeal.Value

/-! What each result array of the kernel holds, index by index, as a function of the three argument arrays. -/

@[expose] public section

noncomputable section

namespace Cert.KernelIdeal.Val

open Idealize.ShloMosaic Idealize.ShloMosaic.TcCoe Idealize.SL.Sem Cert.KernelIdeal.Gen Idealize.ShloMosaic.Pointwise Idealize.ShloMosaic.WordCmp
open Idealize.ShloMosaic.Pipeline (Dat)

/-- A batch of an array as a function of row and column numbers. -/
def rc {W : ℕ} [NeZero W] (A : (⟨3, ![2, 896, W]⟩ : Shape).Idx → EReal) (b s c : ℕ) : EReal := A (ix3 (ix 2 b) (ix 896 s) (ix W c))

/-- One element of the attention, from a whole batch's queries, keys and values: row `s` and result column `c`. -/
def attn (x k v : ℕ → ℕ → EReal) (s c : ℕ) : EReal :=
  let p := wt (fun d => dq 32 x s (128 * (c / 128) + d)) (fun j d => dq 32 k j (128 * (c / 512) + d)) s
  fin (64 * (s / 64 + 1)) p (fun j => p j * kScale (am 128 v j (c / 512))) (fun j => cd 128 v j (128 * (c / 512) + c % 128))

/-! ## Columns of one head -/

/-- The largest magnitudes of columns taken from group `q` on. -/
theorem am_shift (n : ℕ) (f : ℕ → ℕ → EReal) (q s p : ℕ) : am n (fun s c => f s (n * q + c)) s p = am n f s (q + p) := by
  unfold am
  refine Finset.sup_congr rfl fun j _ => ?_
  simp only
  rw [Nat.mul_add, Nat.add_assoc]
/-- The codes of columns taken from group `q` on. -/
theorem cd_shift (n : ℕ) (hn : 0 < n) (f : ℕ → ℕ → EReal) (q s c : ℕ) : cd n (fun s c => f s (n * q + c)) s c = cd n f s (n * q + c) := by
  unfold cd
  rw [am_shift, Nat.mul_add_div hn]
/-- Codes times scales of columns taken from group `q` on. -/
theorem dq_shift (n : ℕ) (hn : 0 < n) (f : ℕ → ℕ → EReal) (q s c : ℕ) : dq n (fun s c => f s (n * q + c)) s c = dq n f s (n * q + c) := by
  unfold dq
  rw [am_shift, cd_shift n hn, Nat.mul_add_div hn]

variable (m : (ℓ : Loc nD τ sig) → Buf (Elt Ideal) ℓ) (c : Dev nD) (t : Fin cfg0.N)

/-- The argument arrays. -/
def xA : S2x896x4096.Idx → EReal := m ((c : Thread nD τ).loc main_arg0)
def kA : S2x896x1024.Idx → EReal := m ((c : Thread nD τ).loc main_arg1)
def vA : S2x896x1024.Idx → EReal := m ((c : Thread nD τ).loc main_arg2)

/-- Which block of each array a grid point has: its batch, and its head unless the block is the whole batch's. -/
theorem idx_all : ∀ t : Fin cfg0.N,
    (win0_0.index t 0 = t.val / 8 ∧ win0_0.index t 1 = 0 ∧ win0_0.index t 2 = t.val % 8)
    ∧ (win0_1.index t 0 = t.val / 8 ∧ win0_1.index t 1 = 0 ∧ win0_1.index t 2 = t.val % 8)
    ∧ (win0_2.index t 0 = t.val / 8 ∧ win0_2.index t 1 = 0 ∧ win0_2.index t 2 = t.val % 8)
    ∧ (win0_3.index t 0 = t.val / 8 ∧ win0_3.index t 1 = 0 ∧ win0_3.index t 2 = t.val % 8)
    ∧ (win0_4.index t 0 = t.val / 8 ∧ win0_4.index t 1 = 0 ∧ win0_4.index t 2 = t.val % 8)
    ∧ (win0_5.index t 0 = t.val / 8 ∧ win0_5.index t 1 = 0 ∧ win0_5.index t 2 = 0)
    ∧ (win0_6.index t 0 = t.val / 8 ∧ win0_6.index t 1 = 0 ∧ win0_6.index t 2 = t.val % 8)
    ∧ (win0_7.index t 0 = t.val / 8 ∧ win0_7.index t 1 = 0 ∧ win0_7.index t 2 = 0)
    ∧ (win0_8.index t 0 = t.val / 8 ∧ win0_8.index t 1 = 0 ∧ win0_8.index t 2 = t.val % 8)
    ∧ (win0_9.index t 0 = t.val / 8 ∧ win0_9.index t 1 = 0 ∧ win0_9.index t 2 = 0)
    ∧ (grid0.coords t 1).val = t.val % 8 :=
  (by decide +kernel : ∀ t : Fin grid0.N, _)

/-- There are sixteen grid points. -/
theorem tN (t : Fin cfg0.N) : t.val < 16 := t.isLt

/-- The queries that a grid point reads, from the argument. -/
theorem pX_apply (i : Fin 7) (g : Fin 4) (r d : Fin 128) :
    pX m c t i g (ix3 0 r d) = rc (xA m c) (t.val / 8) (128 * i.val + r.val) (512 * (t.val % 8) + (128 * g.val + d.val)) := by
  have ht := tN t
  unfold pX
  rw [xb_apply]
  unfold iblk
  rw [View.read_apply]
  show V m c main_arg0 _ = m (c.tc.loc main_arg0) _
  unfold V
  congr 1
  obtain ⟨h0, h1, h2⟩ := (idx_all t).1
  funext a
  apply Fin.ext
  fin_cases a
  · show win0_0.index t 0 * 1 + 1 * 0 = t.val / 8 % 2; rw [h0]; omega
  · show win0_0.index t 1 * 896 + 1 * (128 * i.val + r.val) = (128 * i.val + r.val) % 896; rw [h1]; omega
  · show win0_0.index t 2 * 512 + 1 * (128 * g.val + d.val) = (512 * (t.val % 8) + (128 * g.val + d.val)) % 4096; rw [h2]; omega
/-- The keys that a grid point reads, from the argument. -/
theorem pK_apply (i : Fin 7) (r d : Fin 128) :
    pK m c t i (ix3 0 r d) = rc (kA m c) (t.val / 8) (128 * i.val + r.val) (128 * (t.val % 8) + d.val) := by
  have ht := tN t
  unfold pK
  rw [kb_apply]
  unfold iblk
  rw [View.read_apply]
  show V m c main_arg1 _ = m (c.tc.loc main_arg1) _
  unfold V
  congr 1
  obtain ⟨h0, h1, h2⟩ := (idx_all t).2.1
  funext a
  apply Fin.ext
  fin_cases a
  · show win0_1.index t 0 * 1 + 1 * 0 = t.val / 8 % 2; rw [h0]; omega
  · show win0_1.index t 1 * 896 + 1 * (128 * i.val + r.val) = (128 * i.val + r.val) % 896; rw [h1]; omega
  · show win0_1.index t 2 * 128 + 1 * d.val = (128 * (t.val % 8) + d.val) % 1024; rw [h2]; omega
/-- The values that a grid point reads, from the argument. -/
theorem pV_apply (i : Fin 7) (r d : Fin 128) :
    pV m c t i (ix3 0 r d) = rc (vA m c) (t.val / 8) (128 * i.val + r.val) (128 * (t.val % 8) + d.val) := by
  have ht := tN t
  unfold pV
  rw [kb_apply]
  unfold iblk
  rw [View.read_apply]
  show V m c main_arg2 _ = m (c.tc.loc main_arg2) _
  unfold V
  congr 1
  obtain ⟨h0, h1, h2⟩ := (idx_all t).2.2.1
  funext a
  apply Fin.ext
  fin_cases a
  · show win0_2.index t 0 * 1 + 1 * 0 = t.val / 8 % 2; rw [h0]; omega
  · show win0_2.index t 1 * 896 + 1 * (128 * i.val + r.val) = (128 * i.val + r.val) % 896; rw [h1]; omega
  · show win0_2.index t 2 * 128 + 1 * d.val = (128 * (t.val % 8) + d.val) % 1024; rw [h2]; omega
/-- The head of a grid point. -/
theorem pH_eq : pH t = BitVec.ofNat 32 (t.val % 8) := by
  unfold pH; rw [(idx_all t).2.2.2.2.2.2.2.2.2.2]

/-- The columns of one head of a batch. -/
abbrev hd {W : ℕ} [NeZero W] (A : (⟨3, ![2, 896, W]⟩ : Shape).Idx → EReal) (w n : ℕ) : ℕ → ℕ → EReal := fun s y => rc A (n / 8) s (w * (n % 8) + y)
/-- The queries that a grid point reads, as columns of its head. -/
theorem hX (i : Fin 7) (g : Fin 4) (r d : Fin 128) :
    pX m c t i g (ix3 0 r d) = (fun s y => rc (xA m c) (t.val / 8) s (512 * (t.val % 8) + y)) (128 * i.val + r.val) (128 * g.val + d.val) :=
  pX_apply m c t i g r d
/-- The keys that a grid point reads, as columns of its head. -/
theorem hK (i : Fin 7) (r d : Fin 128) :
    pK m c t i (ix3 0 r d) = (fun s y => rc (kA m c) (t.val / 8) s (128 * (t.val % 8) + y)) (128 * i.val + r.val) d.val := pK_apply m c t i r d
/-- The values that a grid point reads, as columns of its head. -/
theorem hV (i : Fin 7) (r d : Fin 128) :
    pV m c t i (ix3 0 r d) = (fun s y => rc (vA m c) (t.val / 8) s (128 * (t.val % 8) + y)) (128 * i.val + r.val) d.val := pV_apply m c t i r d

/-- A head's largest magnitudes of queries are those of its groups in the batch. -/
theorem am_x (f : ℕ → ℕ → EReal) (h s q : ℕ) : am 32 (fun s y => f s (512 * h + y)) s q = am 32 f s (16 * h + q) := by
  rw [show 512 * h = 32 * (16 * h) by omega]; exact am_shift 32 f _ s q
/-- A head's largest magnitudes of keys are those of its groups in the batch. -/
theorem am_k (f : ℕ → ℕ → EReal) (h s q : ℕ) : am 32 (fun s y => f s (128 * h + y)) s q = am 32 f s (4 * h + q) := by
  rw [show 128 * h = 32 * (4 * h) by omega]; exact am_shift 32 f _ s q
/-- A head's query codes are those of its columns in the batch. -/
theorem cd_x (f : ℕ → ℕ → EReal) (h s y : ℕ) : cd 32 (fun s y => f s (512 * h + y)) s y = cd 32 f s (512 * h + y) := by
  rw [show 512 * h = 32 * (16 * h) by omega]; exact cd_shift 32 (by decide) f _ s y
/-- A head's key codes are those of its columns in the batch. -/
theorem cd_k (f : ℕ → ℕ → EReal) (h s y : ℕ) : cd 32 (fun s y => f s (128 * h + y)) s y = cd 32 f s (128 * h + y) := by
  rw [show 128 * h = 32 * (4 * h) by omega]; exact cd_shift 32 (by decide) f _ s y
/-- A head's queries, code times scale, are those of its columns in the batch. -/
theorem dq_x (f : ℕ → ℕ → EReal) (h s y : ℕ) : dq 32 (fun s y => f s (512 * h + y)) s y = dq 32 f s (512 * h + y) := by
  rw [show 512 * h = 32 * (16 * h) by omega]; exact dq_shift 32 (by decide) f _ s y
/-- A head's keys, code times scale, are those of its columns in the batch. -/
theorem dq_k (f : ℕ → ℕ → EReal) (h s y : ℕ) : dq 32 (fun s y => f s (128 * h + y)) s y = dq 32 f s (128 * h + y) := by
  rw [show 128 * h = 32 * (4 * h) by omega]; exact dq_shift 32 (by decide) f _ s y

/-- A head's attention is that of its columns in the batch. -/
theorem att_shift (x k v : ℕ → ℕ → EReal) (h s y : ℕ) (hy : y < 512) :
    att (fun s y => x s (512 * h + y)) (fun s y => k s (128 * h + y)) (fun s y => v s (128 * h + y)) s (128 * (y / 128)) (y % 128)
      = attn x k v s (512 * h + y) := by
  unfold att attn
  rw [show (512 * h + y) / 512 = h by omega, show 128 * ((512 * h + y) / 128) = 512 * h + 128 * (y / 128) by omega,
    show (512 * h + y) % 128 = y % 128 by omega]
  simp only [dq_x, am_shift, cd_shift 128 (by decide), Nat.add_zero, Nat.add_assoc]
  have hk : dq 32 (fun s y => k s (128 * h + y)) = fun j d => dq 32 k j (128 * h + d) := funext fun j => funext fun d => dq_k k h j d
  rw [hk]

/-! ## What a point leaves in each block -/

/-- The attention's block after a grid point. -/
theorem blk3 (s : Fin 896) (y : Fin 512) : (outsAt0 m c t.val t.isLt).1 (ix3 0 s y)
    = attn (rc (xA m c) (t.val / 8)) (rc (kA m c) (t.val / 8)) (rc (vA m c) (t.val / 8)) s.val (512 * (t.val % 8) + y.val) := by
  rw [← att_shift _ _ _ _ _ _ y.isLt]
  refine Eq.trans ?_ (out_apply (pX m c t) (pK m c t) (pV m c t) _ _ _ (hX m c t) (hK m c t) (hV m c t) scM0_0 scM0_1 scM0_2 scM0_3 scM0_4 s y)
  by_cases h0 : t.val % 8 = 0
  · exact congrFun (atA3 m c t h0) _
  · exact congrFun (atB3 m c t h0) _
/-- The block of query codes after a grid point. -/
theorem blk4 (s : Fin 896) (y : Fin 512) : (outsAt0 m c t.val t.isLt).2.1 (ix3 0 s y)
    = cd 32 (rc (xA m c) (t.val / 8)) s.val (512 * (t.val % 8) + y.val) := by
  rw [← cd_x]
  refine Eq.trans ?_ (qc_apply (pX m c t) _ (hX m c t) s y)
  by_cases h0 : t.val % 8 = 0
  · exact congrFun (atA4 m c t h0) _
  · exact congrFun (atB4 m c t h0) _
/-- The block of key codes after a grid point. -/
theorem blk6 (s : Fin 896) (y : Fin 128) : (outsAt0 m c t.val t.isLt).2.2.2.1 (ix3 0 s y)
    = cd 32 (rc (kA m c) (t.val / 8)) s.val (128 * (t.val % 8) + y.val) := by
  rw [← cd_k]
  refine Eq.trans ?_ (kc_apply (pK m c t) _ (hK m c t) s y)
  by_cases h0 : t.val % 8 = 0
  · exact congrFun (atA6 m c t h0) _
  · exact congrFun (atB6 m c t h0) _
/-- The block of value codes after a grid point. -/
theorem blk8 (s : Fin 896) (y : Fin 128) : (outsAt0 m c t.val t.isLt).2.2.2.2.2.1 (ix3 0 s y)
    = cd 128 (rc (vA m c) (t.val / 8)) s.val (128 * (t.val % 8) + y.val) := by
  rw [← cd_shift 128 (by decide)]
  refine Eq.trans ?_ (vc_apply (pV m c t) _ (hV m c t) s y)
  by_cases h0 : t.val % 8 = 0
  · exact congrFun (atA8 m c t h0) _
  · exact congrFun (atB8 m c t h0) _

/-! The scales grow head by head: after head `h` the columns of heads up to `h` hold their scales, the others zero. -/

/-- The block of query scales after a grid point: the heads up to its own are there, the others are zero. -/
theorem blk5 (s : Fin 896) (y : Fin 128) : ∀ (n : ℕ) (hn : n < cfg0.N), (outsAt0 m c n hn).2.2.1 (ix3 0 s y)
    = if y.val / 16 ≤ n % 8 then kScale (am 32 (rc (xA m c) (n / 8)) s.val y.val) else 0 := by
  have hy := y.isLt
  have inc : ∀ n : ℕ, qInc (fun s y => rc (xA m c) (n / 8) s (512 * (n % 8) + y)) (n % 8) s.val y.val
      = if y.val / 16 = n % 8 then kScale (am 32 (rc (xA m c) (n / 8)) s.val y.val) else 0 := by
    intro n
    unfold qInc
    split
    · rw [am_x, show 16 * (n % 8) + y.val % 16 = y.val by omega]
    · rfl
  intro n
  induction n with
  | zero =>
    intro hn
    refine (congrFun (atA5 m c ⟨0, hn⟩ rfl) _).trans ?_
    rw [pH_eq]
    refine (qsA_apply (pX m c ⟨0, hn⟩) (hd (xA m c) 512 0) (hX m c ⟨0, hn⟩) (0 % 8) (by decide) (ms0_5 ⟨0, hn⟩) s y).trans ?_
    rw [zero_add]
    refine (inc 0).trans (if_congr ?_ rfl rfl)
    omega
  | succ n ih =>
    intro hn
    by_cases h0 : (n + 1) % 8 = 0
    · refine (congrFun (atA5 m c ⟨n + 1, hn⟩ h0) _).trans ?_
      rw [pH_eq]
      refine (qsA_apply (pX m c ⟨n + 1, hn⟩) (hd (xA m c) 512 (n + 1)) (hX m c ⟨n + 1, hn⟩) ((n + 1) % 8) (by omega) (ms0_5 ⟨n + 1, hn⟩) s y).trans ?_
      rw [zero_add]
      refine (inc (n + 1)).trans (if_congr ?_ rfl rfl)
      omega
    · refine (congrFun (atB5 m c ⟨n + 1, hn⟩ h0) _).trans ?_
      rw [pH_eq]
      refine (qsB_apply (pX m c ⟨n + 1, hn⟩) (hd (xA m c) 512 (n + 1)) (hX m c ⟨n + 1, hn⟩) ((n + 1) % 8) (by omega) (ms0_5 ⟨n + 1, hn⟩) (hs0_5 ⟨n + 1, hn⟩) _ s y).trans ?_
      refine (congrArg₂ (· + ·) (ih (by omega)) (inc (n + 1))).trans ?_
      rw [show (n + 1) / 8 = n / 8 by omega]
      by_cases h1 : y.val / 16 ≤ n % 8
      · rw [if_pos h1, if_neg (by omega), if_pos (by omega), add_zero]
      · rw [if_neg h1, zero_add]
        exact if_congr (by omega) rfl rfl
/-- The block of key scales after a grid point: the heads up to its own are there, the others are zero. -/
theorem blk7 (s : Fin 896) (y : Fin 32) : ∀ (n : ℕ) (hn : n < cfg0.N), (outsAt0 m c n hn).2.2.2.2.1 (ix3 0 s y)
    = if y.val / 4 ≤ n % 8 then kScale (am 32 (rc (kA m c) (n / 8)) s.val y.val) else 0 := by
  have hy := y.isLt
  have inc : ∀ n : ℕ, kInc (fun s y => rc (kA m c) (n / 8) s (128 * (n % 8) + y)) (n % 8) s.val y.val
      = if y.val / 4 = n % 8 then kScale (am 32 (rc (kA m c) (n / 8)) s.val y.val) else 0 := by
    intro n
    unfold kInc
    split
    · rw [am_k, show 4 * (n % 8) + y.val % 4 = y.val by omega]
    · rfl
  intro n
  induction n with
  | zero =>
    intro hn
    refine (congrFun (atA7 m c ⟨0, hn⟩ rfl) _).trans ?_
    rw [pH_eq]
    refine (kssA_apply (pK m c ⟨0, hn⟩) (hd (kA m c) 128 0) (hK m c ⟨0, hn⟩) (0 % 8) (by decide) (ms0_7 ⟨0, hn⟩) s y).trans ?_
    rw [zero_add]
    refine (inc 0).trans (if_congr ?_ rfl rfl)
    omega
  | succ n ih =>
    intro hn
    by_cases h0 : (n + 1) % 8 = 0
    · refine (congrFun (atA7 m c ⟨n + 1, hn⟩ h0) _).trans ?_
      rw [pH_eq]
      refine (kssA_apply (pK m c ⟨n + 1, hn⟩) (hd (kA m c) 128 (n + 1)) (hK m c ⟨n + 1, hn⟩) ((n + 1) % 8) (by omega) (ms0_7 ⟨n + 1, hn⟩) s y).trans ?_
      rw [zero_add]
      refine (inc (n + 1)).trans (if_congr ?_ rfl rfl)
      omega
    · refine (congrFun (atB7 m c ⟨n + 1, hn⟩ h0) _).trans ?_
      rw [pH_eq]
      refine (kssB_apply (pK m c ⟨n + 1, hn⟩) (hd (kA m c) 128 (n + 1)) (hK m c ⟨n + 1, hn⟩) ((n + 1) % 8) (by omega) (ms0_7 ⟨n + 1, hn⟩) (hs0_7 ⟨n + 1, hn⟩) _ s y).trans ?_
      refine (congrArg₂ (· + ·) (ih (by omega)) (inc (n + 1))).trans ?_
      rw [show (n + 1) / 8 = n / 8 by omega]
      by_cases h1 : y.val / 4 ≤ n % 8
      · rw [if_pos h1, if_neg (by omega), if_pos (by omega), add_zero]
      · rw [if_neg h1, zero_add]
        exact if_congr (by omega) rfl rfl
/-- The block of value scales after a grid point: the heads up to its own are there, the others are zero. -/
theorem blk9 (s : Fin 896) (y : Fin 8) : ∀ (n : ℕ) (hn : n < cfg0.N), (outsAt0 m c n hn).2.2.2.2.2.2 (ix3 0 s y)
    = if y.val ≤ n % 8 then kScale (am 128 (rc (vA m c) (n / 8)) s.val y.val) else 0 := by
  have hy := y.isLt
  have inc : ∀ (n : ℕ) (p : EReal), vInc (fun s y => rc (vA m c) (n / 8) s (128 * (n % 8) + y)) (n % 8) s.val y.val p
      = if y.val = n % 8 then kScale (am 128 (rc (vA m c) (n / 8)) s.val y.val) else p := by
    intro n p
    unfold vInc
    split
    · rename_i h
      rw [am_shift, ← h, Nat.add_zero]
    · rfl
  intro n
  induction n with
  | zero =>
    intro hn
    refine (congrFun (atA9 m c ⟨0, hn⟩ rfl) _).trans ?_
    rw [pH_eq]
    refine (vssA_apply (pV m c ⟨0, hn⟩) (hd (vA m c) 128 0) (hV m c ⟨0, hn⟩) (0 % 8) (by decide) (ms0_9 ⟨0, hn⟩) s y).trans ?_
    refine (inc 0 0).trans (if_congr ?_ rfl rfl)
    omega
  | succ n ih =>
    intro hn
    by_cases h0 : (n + 1) % 8 = 0
    · refine (congrFun (atA9 m c ⟨n + 1, hn⟩ h0) _).trans ?_
      rw [pH_eq]
      refine (vssA_apply (pV m c ⟨n + 1, hn⟩) (hd (vA m c) 128 (n + 1)) (hV m c ⟨n + 1, hn⟩) ((n + 1) % 8) (by omega) (ms0_9 ⟨n + 1, hn⟩) s y).trans ?_
      refine (inc (n + 1) 0).trans (if_congr ?_ rfl rfl)
      omega
    · refine (congrFun (atB9 m c ⟨n + 1, hn⟩ h0) _).trans ?_
      rw [pH_eq]
      refine (vssB_apply (pV m c ⟨n + 1, hn⟩) (hd (vA m c) 128 (n + 1)) (hV m c ⟨n + 1, hn⟩) ((n + 1) % 8) (by omega) (ms0_9 ⟨n + 1, hn⟩) (hs0_9 ⟨n + 1, hn⟩) _ s y).trans ?_
      refine (inc (n + 1) _).trans ?_
      by_cases h1 : y.val = (n + 1) % 8
      · rw [if_pos h1, if_pos (by omega)]
      · rw [if_neg h1]
        refine (ih (by omega)).trans ?_
        rw [show (n + 1) / 8 = n / 8 by omega]
        exact if_congr (by omega) rfl rfl

/-! ## The result arrays -/

/-- An index of a block, from its row and column. -/
theorem col_eta {W : ℕ} (y : (⟨3, ![1, 896, W]⟩ : Shape).Idx) : y = ix3 0 (y 1) (y 2) := funext fun a => by
  fin_cases a
  · exact Fin.ext (by have := (y 0).isLt; show (y 0).val = 0; change (y 0).val < 1 at this; omega)
  · rfl
  · rfl

/-- The kernel's attention result, as a function of the arguments. -/
theorem arr3 : (dats m 0 c).arrAt 3 cfg0.N = fun i : S2x896x4096.Idx => (attn (rc (xA m c) (i 0).val) (rc (kA m c) (i 0).val) (rc (vA m c) (i 0).val) (i 1).val (i 2).val : EReal) := by
  refine (dats m 0 c).arrAt_eq_of_cover 3 _ (fun t hf => ?_) (fun i => ?_)
  · have ht := tN t
    obtain ⟨h0, h1, h2⟩ := (idx_all t).2.2.2.1
    rw [Value.flushed3]
    funext y
    obtain ⟨s, d, rfl⟩ : ∃ (s : Fin 896) (d : Fin 512), y = (ix3 0 s d : S1x896x512.Idx) := ⟨y 1, y 2, col_eta y⟩
    have hd := d.isLt
    have e0 : ((((cfg0.win 3).blk t).view.emb (ix3 0 s d : S1x896x512.Idx)) 0).val = t.val / 8 := by
      show win0_3.index t 0 * 1 + 1 * 0 = _; rw [h0]; omega
    have e1 : ((((cfg0.win 3).blk t).view.emb (ix3 0 s d : S1x896x512.Idx)) 1).val = s.val := by
      show win0_3.index t 1 * 896 + 1 * s.val = _; rw [h1]; omega
    have e2 : ((((cfg0.win 3).blk t).view.emb (ix3 0 s d : S1x896x512.Idx)) 2).val = 512 * (t.val % 8) + d.val := by
      show win0_3.index t 2 * 512 + 1 * d.val = _; rw [h2]; omega
    rw [View.read_apply]
    simp only [e0, e1, e2]
    exact blk3 m c t s d
  · have hi0 : (i 0).val < 2 := (i 0).isLt
    have hi1 : (i 1).val < 896 := (i 1).isLt
    have hi2 : (i 2).val < 4096 := (i 2).isLt
    obtain ⟨T, hT⟩ : ∃ T : Fin cfg0.N, T.val = 8 * (i 0).val + (i 2).val / 512 := ⟨⟨8 * (i 0).val + (i 2).val / 512, (by show _ < 16; omega)⟩, rfl⟩
    obtain ⟨h0, h1, h2⟩ := (idx_all T).2.2.2.1
    have e : ((cfg0.win 3).blk T).view.emb (ix3 0 (i 1) ⟨(i 2).val % 512, by omega⟩ : S1x896x512.Idx) = i := by
      funext a
      apply Fin.ext
      fin_cases a
      · show win0_3.index T 0 * 1 + 1 * 0 = (i 0).val; rw [h0]; omega
      · show win0_3.index T 1 * 896 + 1 * (i 1).val = (i 1).val; rw [h1]; omega
      · show win0_3.index T 2 * 512 + 1 * ((i 2).val % 512) = (i 2).val; rw [h2]; omega
    refine ⟨T, flush0_3 _, ?_⟩
    exact e ▸ View.emb_mem_set ((cfg0.win 3).blk T).view (ix3 0 (i 1) ⟨(i 2).val % 512, by omega⟩ : S1x896x512.Idx)

/-- The kernel's query codes, as a function of the arguments. -/
theorem arr4 : (dats m 0 c).arrAt 4 cfg0.N = fun i : S2x896x4096.Idx => (cd 32 (rc (xA m c) (i 0).val) (i 1).val (i 2).val : EReal) := by
  refine (dats m 0 c).arrAt_eq_of_cover 4 _ (fun t hf => ?_) (fun i => ?_)
  · have ht := tN t
    obtain ⟨h0, h1, h2⟩ := (idx_all t).2.2.2.2.1
    rw [Value.flushed4]
    funext y
    obtain ⟨s, d, rfl⟩ : ∃ (s : Fin 896) (d : Fin 512), y = (ix3 0 s d : S1x896x512.Idx) := ⟨y 1, y 2, col_eta y⟩
    have hd := d.isLt
    have e0 : ((((cfg0.win 4).blk t).view.emb (ix3 0 s d : S1x896x512.Idx)) 0).val = t.val / 8 := by
      show win0_4.index t 0 * 1 + 1 * 0 = _; rw [h0]; omega
    have e1 : ((((cfg0.win 4).blk t).view.emb (ix3 0 s d : S1x896x512.Idx)) 1).val = s.val := by
      show win0_4.index t 1 * 896 + 1 * s.val = _; rw [h1]; omega
    have e2 : ((((cfg0.win 4).blk t).view.emb (ix3 0 s d : S1x896x512.Idx)) 2).val = 512 * (t.val % 8) + d.val := by
      show win0_4.index t 2 * 512 + 1 * d.val = _; rw [h2]; omega
    rw [View.read_apply]
    simp only [e0, e1, e2]
    exact blk4 m c t s d
  · have hi0 : (i 0).val < 2 := (i 0).isLt
    have hi1 : (i 1).val < 896 := (i 1).isLt
    have hi2 : (i 2).val < 4096 := (i 2).isLt
    obtain ⟨T, hT⟩ : ∃ T : Fin cfg0.N, T.val = 8 * (i 0).val + (i 2).val / 512 := ⟨⟨8 * (i 0).val + (i 2).val / 512, (by show _ < 16; omega)⟩, rfl⟩
    obtain ⟨h0, h1, h2⟩ := (idx_all T).2.2.2.2.1
    have e : ((cfg0.win 4).blk T).view.emb (ix3 0 (i 1) ⟨(i 2).val % 512, by omega⟩ : S1x896x512.Idx) = i := by
      funext a
      apply Fin.ext
      fin_cases a
      · show win0_4.index T 0 * 1 + 1 * 0 = (i 0).val; rw [h0]; omega
      · show win0_4.index T 1 * 896 + 1 * (i 1).val = (i 1).val; rw [h1]; omega
      · show win0_4.index T 2 * 512 + 1 * ((i 2).val % 512) = (i 2).val; rw [h2]; omega
    refine ⟨T, flush0_4 _, ?_⟩
    exact e ▸ View.emb_mem_set ((cfg0.win 4).blk T).view (ix3 0 (i 1) ⟨(i 2).val % 512, by omega⟩ : S1x896x512.Idx)

/-- The kernel's key codes, as a function of the arguments. -/
theorem arr6 : (dats m 0 c).arrAt 6 cfg0.N = fun i : S2x896x1024.Idx => (cd 32 (rc (kA m c) (i 0).val) (i 1).val (i 2).val : EReal) := by
  refine (dats m 0 c).arrAt_eq_of_cover 6 _ (fun t hf => ?_) (fun i => ?_)
  · have ht := tN t
    obtain ⟨h0, h1, h2⟩ := (idx_all t).2.2.2.2.2.2.1
    rw [Value.flushed6]
    funext y
    obtain ⟨s, d, rfl⟩ : ∃ (s : Fin 896) (d : Fin 128), y = (ix3 0 s d : S1x896x128.Idx) := ⟨y 1, y 2, col_eta y⟩
    have hd := d.isLt
    have e0 : ((((cfg0.win 6).blk t).view.emb (ix3 0 s d : S1x896x128.Idx)) 0).val = t.val / 8 := by
      show win0_6.index t 0 * 1 + 1 * 0 = _; rw [h0]; omega
    have e1 : ((((cfg0.win 6).blk t).view.emb (ix3 0 s d : S1x896x128.Idx)) 1).val = s.val := by
      show win0_6.index t 1 * 896 + 1 * s.val = _; rw [h1]; omega
    have e2 : ((((cfg0.win 6).blk t).view.emb (ix3 0 s d : S1x896x128.Idx)) 2).val = 128 * (t.val % 8) + d.val := by
      show win0_6.index t 2 * 128 + 1 * d.val = _; rw [h2]; omega
    rw [View.read_apply]
    simp only [e0, e1, e2]
    exact blk6 m c t s d
  · have hi0 : (i 0).val < 2 := (i 0).isLt
    have hi1 : (i 1).val < 896 := (i 1).isLt
    have hi2 : (i 2).val < 1024 := (i 2).isLt
    obtain ⟨T, hT⟩ : ∃ T : Fin cfg0.N, T.val = 8 * (i 0).val + (i 2).val / 128 := ⟨⟨8 * (i 0).val + (i 2).val / 128, (by show _ < 16; omega)⟩, rfl⟩
    obtain ⟨h0, h1, h2⟩ := (idx_all T).2.2.2.2.2.2.1
    have e : ((cfg0.win 6).blk T).view.emb (ix3 0 (i 1) ⟨(i 2).val % 128, by omega⟩ : S1x896x128.Idx) = i := by
      funext a
      apply Fin.ext
      fin_cases a
      · show win0_6.index T 0 * 1 + 1 * 0 = (i 0).val; rw [h0]; omega
      · show win0_6.index T 1 * 896 + 1 * (i 1).val = (i 1).val; rw [h1]; omega
      · show win0_6.index T 2 * 128 + 1 * ((i 2).val % 128) = (i 2).val; rw [h2]; omega
    refine ⟨T, flush0_6 _, ?_⟩
    exact e ▸ View.emb_mem_set ((cfg0.win 6).blk T).view (ix3 0 (i 1) ⟨(i 2).val % 128, by omega⟩ : S1x896x128.Idx)

/-- The kernel's value codes, as a function of the arguments. -/
theorem arr8 : (dats m 0 c).arrAt 8 cfg0.N = fun i : S2x896x1024.Idx => (cd 128 (rc (vA m c) (i 0).val) (i 1).val (i 2).val : EReal) := by
  refine (dats m 0 c).arrAt_eq_of_cover 8 _ (fun t hf => ?_) (fun i => ?_)
  · have ht := tN t
    obtain ⟨h0, h1, h2⟩ := (idx_all t).2.2.2.2.2.2.2.2.1
    rw [Value.flushed8]
    funext y
    obtain ⟨s, d, rfl⟩ : ∃ (s : Fin 896) (d : Fin 128), y = (ix3 0 s d : S1x896x128.Idx) := ⟨y 1, y 2, col_eta y⟩
    have hd := d.isLt
    have e0 : ((((cfg0.win 8).blk t).view.emb (ix3 0 s d : S1x896x128.Idx)) 0).val = t.val / 8 := by
      show win0_8.index t 0 * 1 + 1 * 0 = _; rw [h0]; omega
    have e1 : ((((cfg0.win 8).blk t).view.emb (ix3 0 s d : S1x896x128.Idx)) 1).val = s.val := by
      show win0_8.index t 1 * 896 + 1 * s.val = _; rw [h1]; omega
    have e2 : ((((cfg0.win 8).blk t).view.emb (ix3 0 s d : S1x896x128.Idx)) 2).val = 128 * (t.val % 8) + d.val := by
      show win0_8.index t 2 * 128 + 1 * d.val = _; rw [h2]; omega
    rw [View.read_apply]
    simp only [e0, e1, e2]
    exact blk8 m c t s d
  · have hi0 : (i 0).val < 2 := (i 0).isLt
    have hi1 : (i 1).val < 896 := (i 1).isLt
    have hi2 : (i 2).val < 1024 := (i 2).isLt
    obtain ⟨T, hT⟩ : ∃ T : Fin cfg0.N, T.val = 8 * (i 0).val + (i 2).val / 128 := ⟨⟨8 * (i 0).val + (i 2).val / 128, (by show _ < 16; omega)⟩, rfl⟩
    obtain ⟨h0, h1, h2⟩ := (idx_all T).2.2.2.2.2.2.2.2.1
    have e : ((cfg0.win 8).blk T).view.emb (ix3 0 (i 1) ⟨(i 2).val % 128, by omega⟩ : S1x896x128.Idx) = i := by
      funext a
      apply Fin.ext
      fin_cases a
      · show win0_8.index T 0 * 1 + 1 * 0 = (i 0).val; rw [h0]; omega
      · show win0_8.index T 1 * 896 + 1 * (i 1).val = (i 1).val; rw [h1]; omega
      · show win0_8.index T 2 * 128 + 1 * ((i 2).val % 128) = (i 2).val; rw [h2]; omega
    refine ⟨T, flush0_8 _, ?_⟩
    exact e ▸ View.emb_mem_set ((cfg0.win 8).blk T).view (ix3 0 (i 1) ⟨(i 2).val % 128, by omega⟩ : S1x896x128.Idx)

/-- The kernel's query scales, as a function of the arguments. -/
theorem arr5 : (dats m 0 c).arrAt 5 cfg0.N = fun i : S2x896x128.Idx => (kScale (am 32 (rc (xA m c) (i 0).val) (i 1).val (i 2).val) : EReal) := by
  refine (dats m 0 c).arrAt_eq_of_cover 5 _ (fun t hf => ?_) (fun i => ?_)
  · have ht := tN t
    obtain ⟨h0, h1, h2⟩ := (idx_all t).2.2.2.2.2.1
    rw [Value.flushed5]
    funext y
    obtain ⟨s, d, rfl⟩ : ∃ (s : Fin 896) (d : Fin 128), y = (ix3 0 s d : S1x896x128.Idx) := ⟨y 1, y 2, col_eta y⟩
    have hd := d.isLt
    have e0 : ((((cfg0.win 5).blk t).view.emb (ix3 0 s d : S1x896x128.Idx)) 0).val = t.val / 8 := by
      show win0_5.index t 0 * 1 + 1 * 0 = _; rw [h0]; omega
    have e1 : ((((cfg0.win 5).blk t).view.emb (ix3 0 s d : S1x896x128.Idx)) 1).val = s.val := by
      show win0_5.index t 1 * 896 + 1 * s.val = _; rw [h1]; omega
    have e2 : ((((cfg0.win 5).blk t).view.emb (ix3 0 s d : S1x896x128.Idx)) 2).val = 0 * (t.val % 8) + d.val := by
      show win0_5.index t 2 * 128 + 1 * d.val = _; rw [h2]; omega
    rw [View.read_apply]
    simp only [e0, e1, e2]
    have h7 : t.val % 8 = 7 := (flush0_5 t).mp hf
    rw [h7, Nat.zero_mul, Nat.zero_add]
    exact (blk5 m c s d t.val t.isLt).trans (if_pos (by omega))
  · have hi0 : (i 0).val < 2 := (i 0).isLt
    have hi1 : (i 1).val < 896 := (i 1).isLt
    have hi2 : (i 2).val < 128 := (i 2).isLt
    obtain ⟨T, hT⟩ : ∃ T : Fin cfg0.N, T.val = 8 * (i 0).val + 7 := ⟨⟨8 * (i 0).val + 7, (by show _ < 16; omega)⟩, rfl⟩
    obtain ⟨h0, h1, h2⟩ := (idx_all T).2.2.2.2.2.1
    have e : ((cfg0.win 5).blk T).view.emb (ix3 0 (i 1) ⟨(i 2).val, by omega⟩ : S1x896x128.Idx) = i := by
      funext a
      apply Fin.ext
      fin_cases a
      · show win0_5.index T 0 * 1 + 1 * 0 = (i 0).val; rw [h0]; omega
      · show win0_5.index T 1 * 896 + 1 * (i 1).val = (i 1).val; rw [h1]; omega
      · show win0_5.index T 2 * 128 + 1 * (i 2).val = (i 2).val; rw [h2]; omega
    refine ⟨T, (flush0_5 _).mpr (by omega), ?_⟩
    exact e ▸ View.emb_mem_set ((cfg0.win 5).blk T).view (ix3 0 (i 1) ⟨(i 2).val, by omega⟩ : S1x896x128.Idx)

/-- The kernel's key scales, as a function of the arguments. -/
theorem arr7 : (dats m 0 c).arrAt 7 cfg0.N = fun i : S2x896x32.Idx => (kScale (am 32 (rc (kA m c) (i 0).val) (i 1).val (i 2).val) : EReal) := by
  refine (dats m 0 c).arrAt_eq_of_cover 7 _ (fun t hf => ?_) (fun i => ?_)
  · have ht := tN t
    obtain ⟨h0, h1, h2⟩ := (idx_all t).2.2.2.2.2.2.2.1
    rw [Value.flushed7]
    funext y
    obtain ⟨s, d, rfl⟩ : ∃ (s : Fin 896) (d : Fin 32), y = (ix3 0 s d : S1x896x32.Idx) := ⟨y 1, y 2, col_eta y⟩
    have hd := d.isLt
    have e0 : ((((cfg0.win 7).blk t).view.emb (ix3 0 s d : S1x896x32.Idx)) 0).val = t.val / 8 := by
      show win0_7.index t 0 * 1 + 1 * 0 = _; rw [h0]; omega
    have e1 : ((((cfg0.win 7).blk t).view.emb (ix3 0 s d : S1x896x32.Idx)) 1).val = s.val := by
      show win0_7.index t 1 * 896 + 1 * s.val = _; rw [h1]; omega
    have e2 : ((((cfg0.win 7).blk t).view.emb (ix3 0 s d : S1x896x32.Idx)) 2).val = 0 * (t.val % 8) + d.val := by
      show win0_7.index t 2 * 32 + 1 * d.val = _; rw [h2]; omega
    rw [View.read_apply]
    simp only [e0, e1, e2]
    have h7 : t.val % 8 = 7 := (flush0_7 t).mp hf
    rw [h7, Nat.zero_mul, Nat.zero_add]
    exact (blk7 m c s d t.val t.isLt).trans (if_pos (by omega))
  · have hi0 : (i 0).val < 2 := (i 0).isLt
    have hi1 : (i 1).val < 896 := (i 1).isLt
    have hi2 : (i 2).val < 32 := (i 2).isLt
    obtain ⟨T, hT⟩ : ∃ T : Fin cfg0.N, T.val = 8 * (i 0).val + 7 := ⟨⟨8 * (i 0).val + 7, (by show _ < 16; omega)⟩, rfl⟩
    obtain ⟨h0, h1, h2⟩ := (idx_all T).2.2.2.2.2.2.2.1
    have e : ((cfg0.win 7).blk T).view.emb (ix3 0 (i 1) ⟨(i 2).val, by omega⟩ : S1x896x32.Idx) = i := by
      funext a
      apply Fin.ext
      fin_cases a
      · show win0_7.index T 0 * 1 + 1 * 0 = (i 0).val; rw [h0]; omega
      · show win0_7.index T 1 * 896 + 1 * (i 1).val = (i 1).val; rw [h1]; omega
      · show win0_7.index T 2 * 32 + 1 * (i 2).val = (i 2).val; rw [h2]; omega
    refine ⟨T, (flush0_7 _).mpr (by omega), ?_⟩
    exact e ▸ View.emb_mem_set ((cfg0.win 7).blk T).view (ix3 0 (i 1) ⟨(i 2).val, by omega⟩ : S1x896x32.Idx)

/-- The kernel's value scales, as a function of the arguments. -/
theorem arr9 : (dats m 0 c).arrAt 9 cfg0.N = fun i : S2x896x8.Idx => (kScale (am 128 (rc (vA m c) (i 0).val) (i 1).val (i 2).val) : EReal) := by
  refine (dats m 0 c).arrAt_eq_of_cover 9 _ (fun t hf => ?_) (fun i => ?_)
  · have ht := tN t
    obtain ⟨h0, h1, h2⟩ := (idx_all t).2.2.2.2.2.2.2.2.2.1
    rw [Value.flushed9]
    funext y
    obtain ⟨s, d, rfl⟩ : ∃ (s : Fin 896) (d : Fin 8), y = (ix3 0 s d : S1x896x8.Idx) := ⟨y 1, y 2, col_eta y⟩
    have hd := d.isLt
    have e0 : ((((cfg0.win 9).blk t).view.emb (ix3 0 s d : S1x896x8.Idx)) 0).val = t.val / 8 := by
      show win0_9.index t 0 * 1 + 1 * 0 = _; rw [h0]; omega
    have e1 : ((((cfg0.win 9).blk t).view.emb (ix3 0 s d : S1x896x8.Idx)) 1).val = s.val := by
      show win0_9.index t 1 * 896 + 1 * s.val = _; rw [h1]; omega
    have e2 : ((((cfg0.win 9).blk t).view.emb (ix3 0 s d : S1x896x8.Idx)) 2).val = 0 * (t.val % 8) + d.val := by
      show win0_9.index t 2 * 8 + 1 * d.val = _; rw [h2]; omega
    rw [View.read_apply]
    simp only [e0, e1, e2]
    have h7 : t.val % 8 = 7 := (flush0_9 t).mp hf
    rw [h7, Nat.zero_mul, Nat.zero_add]
    exact (blk9 m c s d t.val t.isLt).trans (if_pos (by omega))
  · have hi0 : (i 0).val < 2 := (i 0).isLt
    have hi1 : (i 1).val < 896 := (i 1).isLt
    have hi2 : (i 2).val < 8 := (i 2).isLt
    obtain ⟨T, hT⟩ : ∃ T : Fin cfg0.N, T.val = 8 * (i 0).val + 7 := ⟨⟨8 * (i 0).val + 7, (by show _ < 16; omega)⟩, rfl⟩
    obtain ⟨h0, h1, h2⟩ := (idx_all T).2.2.2.2.2.2.2.2.2.1
    have e : ((cfg0.win 9).blk T).view.emb (ix3 0 (i 1) ⟨(i 2).val, by omega⟩ : S1x896x8.Idx) = i := by
      funext a
      apply Fin.ext
      fin_cases a
      · show win0_9.index T 0 * 1 + 1 * 0 = (i 0).val; rw [h0]; omega
      · show win0_9.index T 1 * 896 + 1 * (i 1).val = (i 1).val; rw [h1]; omega
      · show win0_9.index T 2 * 8 + 1 * (i 2).val = (i 2).val; rw [h2]; omega
    refine ⟨T, (flush0_9 _).mpr (by omega), ?_⟩
    exact e ▸ View.emb_mem_set ((cfg0.win 9).blk T).view (ix3 0 (i 1) ⟨(i 2).val, by omega⟩ : S1x896x8.Idx)

end Cert.KernelIdeal.Val
end
-- ==== Proof.Ref.lean ====
module

public import proofs.«01_k».proof.Proof.Gen.ReferenceIdeal.Value
public import Idealize.ShloMosaic.Lib.StableHlo.ReadAt
public import Idealize.ShloMosaic.Lib.Pointwise

/-! What each stage of the reference leaves in its buffers, element by element, over what the stage before it left. -/

@[expose] public section

noncomputable section

namespace Cert.ReferenceIdeal.Val

open Idealize.ShloMosaic Idealize.ShloMosaic.TcCoe Idealize.ShloMosaic.StableHlo Idealize.ShloMosaic.Pointwise Cert.ReferenceIdeal.Gen

/-- `u` where `a` is `z` or below `l`, and `v` elsewhere. -/
def sel (a z l u v : EReal) : EReal := if a = z ∨ a < l then u else v
/-- The exponent of the power of two for a block whose largest magnitude is `a`; zero for a block below `l`. -/
def rExp (l a : EReal) : EReal :=
  sel a 0 l 0 (Ideal.liftRound Int.floor (Ideal.div (Ideal.log (Ideal.div a (Ideal.ofBits .f32 0x43E00000#32))) (Ideal.log (Ideal.ofBits .f32 0x40000000#32))) + 1)
/-- Two to the power `e`. -/
def pow2 (e : EReal) : EReal := Ideal.exp (e * Ideal.log (Ideal.ofBits .f32 0x40000000#32))
/-- The largest of `n` values. -/
def top (n : ℕ) (f : Fin n → EReal) : EReal := Finset.univ.fold max (Ideal.ofBits .f32 0xFF800000#32) f
/-- The magnitude of a value. -/
def mg (x : EReal) : EReal := FloatOps.absf (F := Ideal) (φ := .f32) x
/-- A value held within the range of the codes. -/
def rClip (x : EReal) : EReal := min (Ideal.ofBits .f32 0x43E00000#32) (max (Ideal.ofBits .f32 0xC3E00000#32) x)

/-- A score under its cap. -/
def cap (x : EReal) : EReal :=
  Ideal.ofBits .f32 0x42480000#32 * Ideal.tanh (Ideal.div (Ideal.div x (Ideal.sqrt (Ideal.ofBits .f32 0x43000000#32))) (Ideal.ofBits .f32 0x42480000#32))

/-- The reference's selection on a block that counts as zero, element by element. -/
theorem sel_fun {s : Shape} (x z l u v : FVec Ideal s .f32) :
    select (ori (cmpf .oeq x z) (cmpf .olt x l)) u v = fun i => sel (x i) (z i) (l i) (u i) (v i) := by
  funext i
  have o : ∀ p q : Bool, IntOp.ori (BitVec.ofBool p) (BitVec.ofBool q) = 1#1 ↔ p = true ∨ q = true := by decide
  have e : ori (cmpf .oeq x z) (cmpf .olt x l) i = 1#1 ↔ x i = z i ∨ x i < l i := by
    refine (o (decide (x i = z i)) (decide (x i < l i))).trans ?_
    rw [decide_eq_true_eq, decide_eq_true_eq]
  unfold sel
  by_cases h : x i = z i ∨ x i < l i
  · exact (if_pos (e.mpr h)).trans (if_pos h).symm
  · exact (if_neg (fun h' => h (e.mp h'))).trans (if_neg h).symm
/-- A constant, read. -/
theorem cst (w : BitVec 32) (i : S_.Idx) : (constant (F := Ideal) S_ .f32 w : S_.Idx → EReal) i = Ideal.ofBits .f32 w := rfl
/-- The word of zero. -/
theorem ofBits_zero : Ideal.ofBits .f32 0x00000000#32 = 0 := by simp [Ideal.ofBits, Ideal.ieee]

/-- The elements of a buffer of shape `s`. -/
def rd (s : Shape) (f : s.Idx → EReal) : s.Idx → EReal := f

/-- The host operations of the reference, stage by stage. -/
abbrev SQ : List (HloOp τ sig (Elt Ideal)) := hostOps0 ++ hostOps0_1
abbrev SQ' : List (HloOp τ sig (Elt Ideal)) := hostOps0_2 ++ hostOps0_3
abbrev SK : List (HloOp τ sig (Elt Ideal)) := hostOps0_4 ++ hostOps0_5
abbrev SK' : List (HloOp τ sig (Elt Ideal)) := hostOps0_6 ++ hostOps0_7
abbrev SV : List (HloOp τ sig (Elt Ideal)) := hostOps0_8 ++ hostOps0_9
abbrev SV' : List (HloOp τ sig (Elt Ideal)) := hostOps0_10 ++ hostOps0_11
abbrev SS : List (HloOp τ sig (Elt Ideal)) := hostOps0_12 ++ hostOps0_13
abbrev SE : List (HloOp τ sig (Elt Ideal)) := hostOps0_14 ++ hostOps0_15
abbrev SW : List (HloOp τ sig (Elt Ideal)) := hostOps0_16 ++ hostOps0_17
abbrev SC : List (HloOp τ sig (Elt Ideal)) := hostOps0_18 ++ hostOps0_19
abbrev SO : List (HloOp τ sig (Elt Ideal)) := hostOps0_20

variable (W : Valuation τ sig (Elt Ideal))

/-! ## The quantisers -/

/-- The largest magnitude of a group of queries. -/
theorem q3 (b : Fin 2) (s : Fin 896) (g : Fin 128) :
    rd S2x896x128 (after SQ W (Proc.devRef .tc main_v3)) (ix3 b s g) = top 32 fun x => mg (rd S2x896x4096 (W (Proc.devRef .tc main_arg0)) (ix3 b s ⟨g.val * 32 + x.val, by omega⟩)) := by
  unfold rd
  after_reads_at
  simp only [top, mg]
/-- The exponent of a group of queries. -/
theorem q19 (b : Fin 2) (s : Fin 896) (g : Fin 128) :
    rd S2x896x128x1 (after SQ W (Proc.devRef .tc main_v19)) (ix4 b s g 0) = rExp (Ideal.ofBits .f32 0x04E00000#32) (rd S2x896x128 (after SQ W (Proc.devRef .tc main_v3)) (ix3 b s g)) := by
  unfold rd
  after_reads_simp
  generalize Host.reduce _ _ _ _ _ = y
  simp -implicitDefEqProofs only [TRef.toBuf, TRef.ofBuf, cast_cast, cast_eq]
  clean_types
  rw [sel_fun]
  pointwise
  simp only [id_eq, cst, ofBits_zero, rExp, pow2, rClip]
/-- The queries in groups. -/
theorem q1 (b : Fin 2) (s : Fin 896) (g : Fin 128) (l : Fin 32) :
    rd S2x896x128x32 (after SQ W (Proc.devRef .tc main_v1)) (ix4 b s g l) = rd S2x896x4096 (W (Proc.devRef .tc main_arg0)) (ix3 b s ⟨g.val * 32 + l.val, by omega⟩) := by
  unfold rd
  after_reads_at
/-- The code of a query, from its group's exponent. -/
theorem q27 (b : Fin 2) (s : Fin 896) (g : Fin 128) (l : Fin 32) :
    rd S2x896x128x32 (after SQ' W (Proc.devRef .tc main_v27)) (ix4 b s g l) =
      rClip (rd S2x896x128x32 (W (Proc.devRef .tc main_v1)) (ix4 b s g l) * pow2 (-rd S2x896x128x1 (W (Proc.devRef .tc main_v19)) (ix4 b s g 0))) := by
  unfold rd
  after_reads_at
  simp only [id_eq, cst, ofBits_zero, pow2, rClip]
/-- The scale of a group of queries. -/
theorem k32 (b : Fin 2) (s : Fin 896) (g : Fin 128) :
    rd S2x896x128 (after SK W (Proc.devRef .tc main_v32)) (ix3 b s g) = pow2 (rd S2x896x128x1 (W (Proc.devRef .tc main_v19)) (ix4 b s g 0)) := by
  unfold rd
  after_reads_at
  simp only [id_eq, cst, ofBits_zero, cap, pow2, rClip, top, mg]
/-- The largest magnitude of a group of keys. -/
theorem k36 (b : Fin 2) (s : Fin 896) (g : Fin 32) :
    rd S2x896x32 (after SK W (Proc.devRef .tc main_v36)) (ix3 b s g) = top 32 fun x => mg (rd S2x896x1024 (W (Proc.devRef .tc main_arg1)) (ix3 b s ⟨g.val * 32 + x.val, by omega⟩)) := by
  unfold rd
  after_reads_at
  simp only [top, mg]
/-- The exponent of a group of keys. -/
theorem k52 (b : Fin 2) (s : Fin 896) (g : Fin 32) :
    rd S2x896x32x1 (after SK W (Proc.devRef .tc main_v52)) (ix4 b s g 0) = rExp (Ideal.ofBits .f32 0x04E00000#32) (rd S2x896x32 (after SK W (Proc.devRef .tc main_v36)) (ix3 b s g)) := by
  unfold rd
  after_reads_simp
  generalize Host.reduce _ _ _ _ _ = y
  simp -implicitDefEqProofs only [TRef.toBuf, TRef.ofBuf, cast_cast, cast_eq]
  clean_types
  rw [sel_fun]
  pointwise
  simp only [id_eq, cst, ofBits_zero, rExp, pow2, rClip]
/-- The keys in groups. -/
theorem k34 (b : Fin 2) (s : Fin 896) (g : Fin 32) (l : Fin 32) :
    rd S2x896x32x32 (after SK W (Proc.devRef .tc main_v34)) (ix4 b s g l) = rd S2x896x1024 (W (Proc.devRef .tc main_arg1)) (ix3 b s ⟨g.val * 32 + l.val, by omega⟩) := by
  unfold rd
  after_reads_at
/-- The code of a key, from its group's exponent. -/
theorem k60 (b : Fin 2) (s : Fin 896) (g : Fin 32) (l : Fin 32) :
    rd S2x896x32x32 (after SK' W (Proc.devRef .tc main_v60)) (ix4 b s g l) =
      rClip (rd S2x896x32x32 (W (Proc.devRef .tc main_v34)) (ix4 b s g l) * pow2 (-rd S2x896x32x1 (W (Proc.devRef .tc main_v52)) (ix4 b s g 0))) := by
  unfold rd
  after_reads_at
  simp only [id_eq, cst, ofBits_zero, pow2, rClip]
/-- The scale of a group of keys. -/
theorem v65 (b : Fin 2) (s : Fin 896) (g : Fin 32) :
    rd S2x896x32 (after SV W (Proc.devRef .tc main_v65)) (ix3 b s g) = pow2 (rd S2x896x32x1 (W (Proc.devRef .tc main_v52)) (ix4 b s g 0)) := by
  unfold rd
  after_reads_at
  simp only [id_eq, cst, ofBits_zero, cap, pow2, rClip, top, mg]
/-- The largest magnitude of a row of values. -/
theorem v69 (b : Fin 2) (s : Fin 896) (g : Fin 8) :
    rd S2x896x8 (after SV W (Proc.devRef .tc main_v69)) (ix3 b s g) = top 128 fun x => mg (rd S2x896x1024 (W (Proc.devRef .tc main_arg2)) (ix3 b s ⟨g.val * 128 + x.val, by omega⟩)) := by
  unfold rd
  after_reads_at
  simp only [top, mg]
/-- The exponent of a row of values. -/
theorem v85 (b : Fin 2) (s : Fin 896) (g : Fin 8) :
    rd S2x896x8x1 (after SV W (Proc.devRef .tc main_v85)) (ix4 b s g 0) = rExp (Ideal.ofBits .f32 0x04E00000#32) (rd S2x896x8 (after SV W (Proc.devRef .tc main_v69)) (ix3 b s g)) := by
  unfold rd
  after_reads_simp
  generalize Host.reduce _ _ _ _ _ = y
  simp -implicitDefEqProofs only [TRef.toBuf, TRef.ofBuf, cast_cast, cast_eq]
  clean_types
  rw [sel_fun]
  pointwise
  simp only [id_eq, cst, ofBits_zero, rExp, pow2, rClip]
/-- The values in rows. -/
theorem v67 (b : Fin 2) (s : Fin 896) (g : Fin 8) (l : Fin 128) :
    rd S2x896x8x128 (after SV W (Proc.devRef .tc main_v67)) (ix4 b s g l) = rd S2x896x1024 (W (Proc.devRef .tc main_arg2)) (ix3 b s ⟨g.val * 128 + l.val, by omega⟩) := by
  unfold rd
  after_reads_at
/-- The code of a value, from its row's exponent. -/
theorem v93 (b : Fin 2) (s : Fin 896) (g : Fin 8) (l : Fin 128) :
    rd S2x896x8x128 (after SV' W (Proc.devRef .tc main_v93)) (ix4 b s g l) =
      rClip (rd S2x896x8x128 (W (Proc.devRef .tc main_v67)) (ix4 b s g l) * pow2 (-rd S2x896x8x1 (W (Proc.devRef .tc main_v85)) (ix4 b s g 0))) := by
  unfold rd
  after_reads_at
  simp only [id_eq, cst, ofBits_zero, pow2, rClip]

/-! ## The scores -/

/-- The scale of a row of values. -/
theorem s98 (b : Fin 2) (s : Fin 896) (g : Fin 8) :
    rd S2x896x8 (after SS W (Proc.devRef .tc main_v98)) (ix3 b s g) = pow2 (rd S2x896x8x1 (W (Proc.devRef .tc main_v85)) (ix4 b s g 0)) := by
  unfold rd
  after_reads_at
  simp only [id_eq, cst, ofBits_zero, cap, pow2, rClip, top, mg]
/-- The value codes, head before row. -/
theorem s114 (b : Fin 2) (g : Fin 8) (j : Fin 896) (c : Fin 128) :
    rd S2x8x896x128 (after SS W (Proc.devRef .tc main_v114)) (ix4 b g j c) = rd S2x896x8x128 (W (Proc.devRef .tc main_v93)) (ix4 b j g c) := by
  unfold rd
  after_reads_at
/-- The value scales, head before row. -/
theorem s115 (b : Fin 2) (g : Fin 8) (j : Fin 896) :
    rd S2x8x896 (after SS W (Proc.devRef .tc main_v115)) (ix3 b g j) = pow2 (rd S2x896x8x1 (W (Proc.devRef .tc main_v85)) (ix4 b j g 0)) := by
  unfold rd
  after_reads_at
  simp only [id_eq, cst, ofBits_zero, cap, pow2, rClip, top, mg]
/-- The mask: a key no later than the query. -/
theorem s131 (s j : Fin 896) :
    after SS W (Proc.devRef .tc main_v131) (ix2 s j) = IntOp.cmpi .sle (BitVec.ofNat 32 j.val) (BitVec.ofNat 32 s.val) := by
  after_reads_at
/-- The masked, capped scores. -/
theorem s132 (b : Fin 2) (g : Fin 8) (h : Fin 4) (s j : Fin 896) :
    rd S2x8x4x896x896 (after SS W (Proc.devRef .tc main_v132)) (ix5 b g h s j) =
      Scalar.select (IntOp.cmpi .sle (BitVec.ofNat 32 j.val) (BitVec.ofNat 32 s.val))
        (cap (∑ x : Fin 128,
          rd S2x896x128x32 (W (Proc.devRef .tc main_v27)) (ix4 b s ⟨g.val * 16 + h.val * 4 + x.val / 32, by omega⟩ ⟨x.val % 32, by omega⟩)
              * rd S2x896x128 (W (Proc.devRef .tc main_v32)) (ix3 b s ⟨g.val * 16 + h.val * 4 + x.val / 32, by omega⟩)
            * (rd S2x896x32x32 (W (Proc.devRef .tc main_v60)) (ix4 b j ⟨g.val * 4 + x.val / 32, by omega⟩ ⟨x.val % 32, by omega⟩)
              * rd S2x896x32 (W (Proc.devRef .tc main_v65)) (ix3 b j ⟨g.val * 4 + x.val / 32, by omega⟩))))
        (Ideal.ofBits .f32 0xFF800000#32) := by
  unfold rd
  after_reads_at
  simp only [id_eq, cst, ofBits_zero, cap, pow2, rClip, top, mg]

/-! ## The attention -/

/-- The exponentials of the scores less the greatest one, zero where masked. -/
theorem e138 (b : Fin 2) (g : Fin 8) (h : Fin 4) (s j : Fin 896) :
    rd S2x8x4x896x896 (after SE W (Proc.devRef .tc main_v138)) (ix5 b g h s j) =
      Scalar.select (W (Proc.devRef .tc main_v131) (ix2 s j))
        (Ideal.exp (rd S2x8x4x896x896 (W (Proc.devRef .tc main_v132)) (ix5 b g h s j) - top 896 fun x => rd S2x8x4x896x896 (W (Proc.devRef .tc main_v132)) (ix5 b g h s x)))
        (Ideal.ofBits .f32 0x00000000#32) := by
  unfold rd
  after_reads_at
  simp only [id_eq, cst, ofBits_zero, cap, pow2, rClip, top, mg]
/-- The sum of a query's exponentials. -/
theorem w139 (b : Fin 2) (g : Fin 8) (h : Fin 4) (s : Fin 896) :
    rd S2x8x4x896 (after SW W (Proc.devRef .tc main_v139)) (ix4 b g h s) = ∑ x : Fin 896, rd S2x8x4x896x896 (W (Proc.devRef .tc main_v138)) (ix5 b g h s x) := by
  unfold rd
  after_reads_at
/-- The exponentials times the value scales. -/
theorem w142 (b : Fin 2) (g : Fin 8) (h : Fin 4) (s j : Fin 896) :
    rd S2x8x4x896x896 (after SW W (Proc.devRef .tc main_v142)) (ix5 b g h s j) = rd S2x8x4x896x896 (W (Proc.devRef .tc main_v138)) (ix5 b g h s j) * rd S2x8x896 (W (Proc.devRef .tc main_v115)) (ix3 b g j) := by
  unfold rd
  after_reads_at
/-- The greatest such weight of a query. -/
theorem w144 (b : Fin 2) (g : Fin 8) (h : Fin 4) (s : Fin 896) :
    rd S2x8x4x896 (after SW W (Proc.devRef .tc main_v144)) (ix4 b g h s) =
      top 896 fun x => mg (rd S2x8x4x896x896 (W (Proc.devRef .tc main_v138)) (ix5 b g h s x) * rd S2x8x896 (W (Proc.devRef .tc main_v115)) (ix3 b g x)) := by
  unfold rd
  after_reads_at
  simp only [id_eq, cst, ofBits_zero, cap, pow2, rClip, top, mg]
/-- The exponent of a query's weights. -/
theorem w160 (b : Fin 2) (g : Fin 8) (h : Fin 4) (s : Fin 896) :
    rd S2x8x4x896x1 (after SW W (Proc.devRef .tc main_v160)) (ix5 b g h s 0) = rExp 0 (rd S2x8x4x896 (after SW W (Proc.devRef .tc main_v144)) (ix4 b g h s)) := by
  unfold rd
  after_reads_simp
  generalize Host.reduce _ _ _ _ _ = y
  simp -implicitDefEqProofs only [TRef.toBuf, TRef.ofBuf, cast_cast, cast_eq]
  clean_types
  rw [sel_fun]
  pointwise
  simp only [id_eq, cst, ofBits_zero, rExp, pow2, rClip]
/-- The code of a weight. -/
theorem c168 (b : Fin 2) (g : Fin 8) (h : Fin 4) (s j : Fin 896) :
    rd S2x8x4x896x896 (after SC W (Proc.devRef .tc main_v168)) (ix5 b g h s j) = rClip (rd S2x8x4x896x896 (W (Proc.devRef .tc main_v142)) (ix5 b g h s j) * pow2 (-rd S2x8x4x896x1 (W (Proc.devRef .tc main_v160)) (ix5 b g h s 0))) := by
  unfold rd
  after_reads_at
  simp only [id_eq, cst, ofBits_zero, cap, pow2, rClip, top, mg]
/-- The attention result: codes times codes, times the scale, over the sum. -/
theorem o184 (b : Fin 2) (s : Fin 896) (c : Fin 4096) :
    rd S2x896x4096 (after SO W (Proc.devRef .tc main_v184)) (ix3 b s c) =
      Ideal.div
        ((∑ x : Fin 896, rd S2x8x4x896x896 (W (Proc.devRef .tc main_v168)) (ix5 b ⟨c.val / 512, by omega⟩ ⟨c.val / 128 % 4, by omega⟩ s x)
            * rd S2x8x896x128 (W (Proc.devRef .tc main_v114)) (ix4 b ⟨c.val / 512, by omega⟩ x ⟨c.val % 128, by omega⟩))
          * pow2 (rd S2x8x4x896x1 (W (Proc.devRef .tc main_v160)) (ix5 b ⟨c.val / 512, by omega⟩ ⟨c.val / 128 % 4, by omega⟩ s 0)))
        (rd S2x8x4x896 (W (Proc.devRef .tc main_v139)) (ix4 b ⟨c.val / 512, by omega⟩ ⟨c.val / 128 % 4, by omega⟩ s)) := by
  unfold rd
  after_reads_at
  simp only [id_eq, cst, ofBits_zero, cap, pow2, rClip, top, mg]
/-- The query codes in the argument's shape. -/
theorem o185 (b : Fin 2) (s : Fin 896) (c : Fin 4096) :
    rd S2x896x4096 (after SO W (Proc.devRef .tc main_v185)) (ix3 b s c) = rd S2x896x128x32 (W (Proc.devRef .tc main_v27)) (ix4 b s ⟨c.val / 32, by omega⟩ ⟨c.val % 32, by omega⟩) := by
  unfold rd
  after_reads_at
/-- The key codes in the argument's shape. -/
theorem o186 (b : Fin 2) (s : Fin 896) (c : Fin 1024) :
    rd S2x896x1024 (after SO W (Proc.devRef .tc main_v186)) (ix3 b s c) = rd S2x896x32x32 (W (Proc.devRef .tc main_v60)) (ix4 b s ⟨c.val / 32, by omega⟩ ⟨c.val % 32, by omega⟩) := by
  unfold rd
  after_reads_at
/-- The value codes in the argument's shape. -/
theorem o187 (b : Fin 2) (s : Fin 896) (c : Fin 1024) :
    rd S2x896x1024 (after SO W (Proc.devRef .tc main_v187)) (ix3 b s c) = rd S2x896x8x128 (W (Proc.devRef .tc main_v93)) (ix4 b s ⟨c.val / 128, by omega⟩ ⟨c.val % 128, by omega⟩) := by
  unfold rd
  after_reads_at

end Cert.ReferenceIdeal.Val
-- ==== Proof.Math.lean ====
module

public import proofs.«01_k».proof.Proof.Arr
public import proofs.«01_k».proof.Proof.Ref

/-! The kernel's scalar formulas and the reference's are the same extended reals. -/

@[expose] public section

noncomputable section

namespace Cert.Val

open Idealize.ShloMosaic Cert.KernelIdeal.Val Cert.ReferenceIdeal.Val

/-! ## Constants -/

/-- The word is 448. -/
theorem c448 : Ideal.ofBits .f32 0x43E00000#32 = ((448 : ℝ) : EReal) := by
  simp [Ideal.ofBits, Ideal.ieee, -EReal.coe_mul]; norm_num
/-- The word is two. -/
theorem c2 : Ideal.ofBits .f32 0x40000000#32 = ((2 : ℝ) : EReal) := by
  simp [Ideal.ofBits, Ideal.ieee, -EReal.coe_mul]; norm_num
/-- The word is fifty. -/
theorem c50 : Ideal.ofBits .f32 0x42480000#32 = ((50 : ℝ) : EReal) := by
  simp [Ideal.ofBits, Ideal.ieee, -EReal.coe_mul]; norm_num
/-- The word is 128. -/
theorem c128 : Ideal.ofBits .f32 0x43000000#32 = ((128 : ℝ) : EReal) := by
  simp [Ideal.ofBits, Ideal.ieee, -EReal.coe_mul]; norm_num
/-- The word is minus infinity. -/
theorem cbot : Ideal.ofBits .f32 0xFF800000#32 = (⊥ : EReal) := by simp [Ideal.ofBits, Ideal.ieee]
/-- The f32 word and the bf16 word of 448 * 2^-126 are one number. -/
theorem ctiny : Ideal.ofBits .f32 0x04E00000#32 = Ideal.ofBits .bf16 0x04E0#16 := by
  simp [Ideal.ofBits, Ideal.ieee, -EReal.coe_mul]; norm_num
/-- That number is positive. -/
theorem tiny_pos : 0 < Ideal.ofBits .bf16 0x04E0#16 := by
  simp [Ideal.ofBits, Ideal.ieee, -EReal.coe_mul]
/-- The word is minus 448. -/
theorem clo : Ideal.ofBits .f32 0xC3E00000#32 = ((-448 : ℝ) : EReal) := by
  simp [Ideal.ofBits, Ideal.ieee, -EReal.coe_mul]; norm_num

/-! ## Powers of two -/

/-- The logarithm of two is positive. -/
theorem log2_pos : 0 < Real.log 2 := Real.log_pos (by norm_num)
/-- The logarithm of the word of two. -/
theorem logc2 : Ideal.log (Ideal.ofBits .f32 0x40000000#32) = ((Real.log 2 : ℝ) : EReal) := by
  rw [c2]
  show (if (2 : ℝ) ≤ 0 then (⊥ : EReal) else ((Real.log 2 : ℝ) : EReal)) = _
  rw [if_neg (by norm_num)]

/-- The kernel's power of two is the reference's. -/
theorem exp2_eq (e : EReal) : Ideal.exp2 e = pow2 e := by
  unfold pow2
  rw [logc2]
  induction e with
  | bot => rw [EReal.bot_mul_coe_of_pos log2_pos]; rfl
  | top => rw [EReal.top_mul_coe_of_pos log2_pos]; rfl
  | coe r =>
    rw [← EReal.coe_mul]
    show ((Real.rpow 2 r : ℝ) : EReal) = ((Real.exp (r * Real.log 2) : ℝ) : EReal)
    rw [mul_comm r, ← Real.rpow_def_of_pos (by norm_num : (0:ℝ) < 2)]; rfl

/-- Two to the power zero is one. -/
theorem pow2_zero : pow2 0 = 1 := by
  unfold pow2; rw [zero_mul]; show ((Real.exp 0 : ℝ) : EReal) = 1; simp
/-- One over a power of two is the power of the opposite exponent. -/
theorem div_pow2_neg (e : EReal) : Ideal.div 1 (pow2 (-e)) = pow2 e := by
  unfold pow2 Ideal.div
  rw [logc2]
  induction e with
  | bot =>
    rw [EReal.neg_bot, EReal.top_mul_coe_of_pos log2_pos, EReal.bot_mul_coe_of_pos log2_pos]
    show (if (⊤ : EReal) = 0 then _ else 1 * (⊤ : EReal)⁻¹) = 0
    simp
  | top =>
    rw [EReal.neg_top, EReal.top_mul_coe_of_pos log2_pos, EReal.bot_mul_coe_of_pos log2_pos]
    show (if (0 : EReal) = 0 then (if (0 : EReal) < 1 then ⊤ else ⊥) else _) = ⊤
    simp
  | coe r =>
    rw [← EReal.coe_neg, ← EReal.coe_mul, ← EReal.coe_mul]
    show (if ((Real.exp (-r * Real.log 2) : ℝ) : EReal) = 0 then _ else 1 * ((Real.exp (-r * Real.log 2) : ℝ) : EReal)⁻¹) = ((Real.exp (r * Real.log 2) : ℝ) : EReal)
    rw [if_neg (by exact_mod_cast (Real.exp_pos _).ne'), one_mul, ← EReal.coe_inv, ← Real.exp_neg]
    congr 2; ring

/-- A power of two is positive unless its exponent is minus infinity. -/
theorem pow2_pos {a : EReal} (h : a ≠ ⊥) : 0 < pow2 a := by
  unfold pow2
  rw [logc2]
  induction a with
  | bot => exact absurd rfl h
  | top => rw [EReal.top_mul_coe_of_pos log2_pos]; exact EReal.zero_lt_top
  | coe r =>
    rw [← EReal.coe_mul]
    show (0 : EReal) < ((Real.exp (r * Real.log 2) : ℝ) : EReal)
    exact_mod_cast Real.exp_pos _

/-! ## Exponents, scales and codes -/

/-- Division by a nonzero real is multiplication by its inverse. -/
theorem div_coe (x : EReal) {r : ℝ} (h : r ≠ 0) : Ideal.div x (r : EReal) = x * ((r⁻¹ : ℝ) : EReal) := by
  unfold Ideal.div
  rw [if_neg (by exact_mod_cast h), EReal.coe_inv]

/-- Off the blocks that count as zero the reference's exponent is the kernel's. -/
theorem rExp_kExp {l a : EReal} (h0 : a ≠ 0) (hl : ¬a < l) : rExp l a = kExp a := by
  unfold rExp sel kExp
  rw [if_neg (by tauto), c448, logc2, div_coe _ log2_pos.ne', div_coe _ (by norm_num : (448 : ℝ) ≠ 0), one_div]
/-- A block that counts as zero has exponent zero. -/
theorem rExp_low {l a : EReal} (h : a < l) : rExp l a = 0 := if_pos (Or.inr h)

/-- The kernel's inverse scale is the reference's. -/
theorem kInv_eq {a : EReal} (ha : 0 ≤ a) : kInv a = pow2 (-rExp (Ideal.ofBits .f32 0x04E00000#32) a) := by
  unfold kInv
  rw [ctiny]
  split
  · next h => rw [rExp_low h, neg_zero, pow2_zero]
  · next h =>
    rw [rExp_kExp (fun e => h (by rw [e]; exact tiny_pos)) h, exp2_eq, zero_sub]
/-- The kernel's scale is the reference's. -/
theorem kScale_eq {a : EReal} (ha : 0 ≤ a) : kScale a = pow2 (rExp (Ideal.ofBits .f32 0x04E00000#32) a) := by
  unfold kScale
  rw [kInv_eq ha, div_pow2_neg]
/-- The two clips are one function. -/
theorem clip_eq (x : EReal) : rClip x = clip x := rfl

/-- An inverse scale is not infinite. -/
theorem kInv_ne_top (a : EReal) : kInv a ≠ ⊤ := by
  unfold kInv
  split
  · exact EReal.coe_ne_top 1
  · next h =>
    rw [exp2_eq]; unfold pow2; rw [logc2]
    have hb : Ideal.log (a * ((1 / 448 : ℝ) : EReal)) ≠ ⊥ := by
      induction a with
      | bot => exact absurd (lt_trans EReal.bot_lt_zero tiny_pos) h
      | top => rw [EReal.top_mul_coe_of_pos (by norm_num)]; exact (by decide : (⊤ : EReal) ≠ ⊥)
      | coe r =>
        have hr : 0 < r := by
          by_contra hr
          exact h (lt_of_le_of_lt (by exact_mod_cast not_lt.mp hr) tiny_pos)
        rw [← EReal.coe_mul]
        show (if r * (1 / 448) ≤ 0 then (⊥ : EReal) else _) ≠ ⊥
        rw [if_neg (by exact not_le.mpr (by positivity))]
        exact EReal.coe_ne_bot _
    unfold kExp
    have hp : 0 < (Real.log 2)⁻¹ := inv_pos.mpr log2_pos
    generalize Ideal.log (a * ((1 / 448 : ℝ) : EReal)) = y at hb
    induction y with
    | bot => exact absurd rfl hb
    | top =>
      rw [EReal.top_mul_coe_of_pos hp]
      show Ideal.exp ((0 - ((⊤ : EReal) + 1)) * _) ≠ ⊤
      rw [show (⊤ : EReal) + 1 = ⊤ from rfl, zero_sub, EReal.neg_top, EReal.bot_mul_coe_of_pos log2_pos]
      exact EReal.zero_ne_top
    | coe r =>
      rw [← EReal.coe_mul]
      show Ideal.exp ((0 - (((⌊r * (Real.log 2)⁻¹⌋ : ℝ) : EReal) + ((1 : ℝ) : EReal))) * _) ≠ ⊤
      rw [← EReal.coe_add, zero_sub, ← EReal.coe_neg, ← EReal.coe_mul]
      exact EReal.coe_ne_top _
/-- A scale is positive. -/
theorem kScale_pos (a : EReal) : 0 < kScale a := by
  unfold kScale Ideal.div
  split
  · rw [if_pos zero_lt_one]; exact EReal.zero_lt_top
  · next h =>
    rw [one_mul]
    have h0 : 0 ≤ kInv a := by
      unfold kInv
      split
      · exact zero_le_one
      · rw [exp2_eq]; unfold pow2
        generalize (0 - kExp a) * _ = y
        induction y with
        | bot => exact le_refl _
        | top => exact le_top
        | coe r =>
          show (0 : EReal) ≤ ((Real.exp r : ℝ) : EReal)
          exact_mod_cast (Real.exp_pos r).le
    have ht := kInv_ne_top a
    generalize kInv a = y at h h0 ht
    induction y with
    | bot => exact absurd h0 (by decide)
    | top => exact absurd rfl ht
    | coe r =>
      rw [← EReal.coe_inv]
      exact_mod_cast inv_pos.mpr (lt_of_le_of_ne (by exact_mod_cast h0) (fun e => h (by rw [← e]; rfl)))

/-- The largest magnitude of a group, as the reference takes it. -/
theorem top_am (n : ℕ) (hn : 0 < n) (f : ℕ → ℕ → EReal) (s q : ℕ) : (top n fun x => mg (f s (n * q + x.val))) = am n f s q := by
  unfold top am
  rw [cbot]; rfl
/-- A largest magnitude is not negative. -/
theorem am_nonneg (n : ℕ) (hn : 0 < n) (f : ℕ → ℕ → EReal) (s q : ℕ) : 0 ≤ am n f s q := by
  refine le_trans ?_ (Finset.le_sup (Finset.mem_univ (⟨0, hn⟩ : Fin n)))
  show (0 : EReal) ≤ max (f s _) (-f s _)
  rcases le_total 0 (f s (n * q + 0)) with h | h
  · exact le_max_of_le_left h
  · exact le_max_of_le_right (EReal.neg_nonneg.mpr h)

end Cert.Val
-- ==== Proof.Soft.lean ====
module

public import proofs.«01_k».proof.Proof.Math

/-! One element of the attention: the reference's softmax over all the keys, with its greatest score subtracted, and the
kernel's weights over the keys of the leading tiles, with their greatest divided out, are the same extended real. -/

@[expose] public section

noncomputable section

namespace Cert.Val

open Idealize.ShloMosaic Cert.KernelIdeal.Val Cert.ReferenceIdeal.Val

section
variable (D sc u : ℕ → EReal) (s : ℕ)
/-- The reference's masked score, … -/
def refS (j : ℕ) : EReal := if j ≤ s then cap (D j) else ⊥
/-- … its exponential against the greatest score, … -/
def refE (j : ℕ) : EReal := if j ≤ s then Ideal.exp (refS D s j - top 896 fun x => refS D s x.val) else 0
/-- … the weight that takes in the scale of the key's value, … -/
def refW (j : ℕ) : EReal := refE D s j * sc j
/-- … the greatest such weight, … -/
def refA : EReal := top 896 fun x => mg (refW D sc s x.val)
/-- … and the result. -/
def refO : EReal :=
  Ideal.div ((∑ x : Fin 896, rClip (refW D sc s x.val * pow2 (-rExp 0 (refA D sc s))) * u x.val) * pow2 (rExp 0 (refA D sc s)))
    (∑ x : Fin 896, refE D s x.val)
/-- The kernel's weight. -/
def kP (j : ℕ) : EReal := if j ≤ s then soft (D j) else 0
end

/-- A capped score is a real number, and the kernel's weight is its exponential. -/
theorem cap_soft (x : EReal) : ∃ T : ℝ, cap x = (T : EReal) ∧ soft x = ((Real.exp T : ℝ) : EReal) := by
  have hq : 0 < Real.sqrt 128 := Real.sqrt_pos.mpr (by norm_num)
  have hs : Ideal.sqrt (Ideal.ofBits .f32 0x43000000#32) = ((Real.sqrt 128 : ℝ) : EReal) := by
    rw [c128]
    show (if (128 : ℝ) < 0 then (⊥ : EReal) else ((Real.sqrt 128 : ℝ) : EReal)) = _
    rw [if_neg (by norm_num)]
  unfold cap soft
  rw [hs, c50, div_coe _ hq.ne', div_coe _ (by norm_num), mul_assoc, ← EReal.coe_mul, one_div]
  obtain ⟨h, hh⟩ : ∃ h : ℝ, Ideal.tanh (x * (((Real.sqrt 128)⁻¹ * 50⁻¹ : ℝ) : EReal)) = (h : EReal) := by
    generalize x * (((Real.sqrt 128)⁻¹ * 50⁻¹ : ℝ) : EReal) = y
    induction y with
    | bot => exact ⟨-1, rfl⟩
    | top => exact ⟨1, rfl⟩
    | coe r => exact ⟨Real.tanh r, rfl⟩
  rw [hh]
  refine ⟨50 * h, by rw [EReal.coe_mul], ?_⟩
  rw [exp2_eq]
  unfold pow2
  rw [logc2, ← EReal.coe_mul, ← EReal.coe_mul]
  show ((Real.exp _ : ℝ) : EReal) = _
  have := log2_pos.ne'
  congr 2
  field_simp

/-- A factor comes out of a sum of terms that are not negative. -/
theorem sum_mul_nonneg (n : ℕ) (f : ℕ → EReal) (hf : ∀ k, 0 ≤ f k) (r : EReal) :
    (∑ k ∈ Finset.range n, f k * r) = (∑ k ∈ Finset.range n, f k) * r := by
  induction n with
  | zero => simp
  | succ n ih =>
    rw [Finset.sum_range_succ, Finset.sum_range_succ, ih, EReal.right_distrib_of_nonneg (Finset.sum_nonneg fun k _ => hf k) (hf n)]

/-- A sum over all keys whose terms vanish from `n` on. -/
theorem sum_cut {n : ℕ} (hn : n ≤ 896) (f : ℕ → EReal) (h0 : ∀ k, n ≤ k → f k = 0) :
    (∑ x : Fin 896, f x.val) = ∑ k ∈ Finset.range n, f k := by
  rw [← Finset.sum_range]
  refine (Finset.sum_subset (Finset.range_mono hn) fun k _ hk => h0 k ?_).symm
  rw [Finset.mem_range] at hk; omega

/-- A bound on the greatest of 896 values. -/
theorem top_le (f : Fin 896 → EReal) (b : EReal) : top 896 f ≤ b ↔ ∀ x, f x ≤ b := by
  unfold top
  rw [Finset.fold_max_le, cbot]
  simp

/-- Zero is its own clip. -/
theorem clip_zero : clip 0 = 0 := by
  unfold clip
  rw [c448, clo]
  have h1 : ((-448 : ℝ) : EReal) ≤ 0 := by exact_mod_cast (by norm_num : (-448 : ℝ) ≤ 0)
  have h2 : (0 : EReal) ≤ ((448 : ℝ) : EReal) := by exact_mod_cast (by norm_num : (0 : ℝ) ≤ 448)
  rw [max_eq_right h1, min_eq_right h2]

/-- The greatest of nonnegative values is one of them. -/
theorem mx_at {n : ℕ} (hn : 0 < n) (f : ℕ → EReal) (hf : ∀ k, 0 ≤ f k) : ∃ i < n, mx n f = f i ∧ ∀ k < n, f k ≤ f i := by
  obtain ⟨i, hi, h⟩ := Finset.exists_max_image (Finset.range n) f ⟨0, Finset.mem_range.mpr hn⟩
  have h' : ∀ k < n, f k ≤ f i := fun k hk => h k (Finset.mem_range.mpr hk)
  refine ⟨i, Finset.mem_range.mp hi, le_antisymm ((mx_le n f _).mpr ⟨hf i, h'⟩) (((mx_le n f _).mp le_rfl).2 i (Finset.mem_range.mp hi)), h'⟩

/-- One element: the reference's softmax over all keys is the kernel's over the chunks up to the row's own, whatever the scalar products and the codes are, for positive scales. -/
theorem refO_eq (D sc u : ℕ → EReal) (hsc : ∀ j, 0 < sc j) (s : ℕ) (hs : s < 896) :
    refO D sc u s = fin (64 * (s / 64 + 1)) (kP D s) (fun j => kP D s j * sc j) u := by
  obtain ⟨n, hn⟩ : ∃ n, n = 64 * (s / 64 + 1) := ⟨_, rfl⟩
  rw [← hn]
  have hsn : s < n := by omega
  have hn896 : n ≤ 896 := by omega
  have hn0 : 0 < n := by omega
  clear hn
  choose T hT hP using fun j => cap_soft (D j)
  have hp0 : ∀ k, 0 ≤ kP D s k := fun k => by
    unfold kP
    split
    · rw [hP]; exact_mod_cast (Real.exp_pos _).le
    · exact le_rfl
  have hpz : ∀ k, n ≤ k → kP D s k = 0 := fun k hk => if_neg (by omega)
  -- the greatest weight is the exponential of the greatest score
  obtain ⟨i, hi, hm, hmax⟩ := mx_at hn0 (kP D s) hp0
  have hpos : 0 < kP D s i := lt_of_lt_of_le (by unfold kP; rw [if_pos le_rfl, hP]; exact_mod_cast Real.exp_pos _) (hmax s hsn)
  have his : i ≤ s := by
    by_contra h
    unfold kP at hpos
    rw [if_neg h] at hpos
    exact lt_irrefl _ hpos
  have hpi : kP D s i = ((Real.exp (T i) : ℝ) : EReal) := by unfold kP; rw [if_pos his, hP]
  have hM : (top 896 fun x => refS D s x.val) = ((T i : ℝ) : EReal) := by
    refine le_antisymm ((top_le _ _).mpr fun x => ?_) ?_
    · show refS D s x.val ≤ _
      unfold refS
      split
      · next h =>
        have := hmax x.val (by omega)
        rw [hpi] at this
        unfold kP at this
        rw [if_pos h, hP] at this
        rw [hT]
        exact_mod_cast Real.exp_le_exp.mp (by exact_mod_cast this)
      · exact bot_le
    · have := (top_le (fun x => refS D s x.val) _).mp le_rfl ⟨i, by omega⟩
      refine le_trans (le_of_eq ?_) this
      show _ = refS D s i
      unfold refS
      rw [if_pos his, hT]
  obtain ⟨r, hr⟩ : ∃ r : EReal, r = Ideal.div 1 (mx n (kP D s)) := ⟨_, rfl⟩
  have hr' : r = (((Real.exp (T i))⁻¹ : ℝ) : EReal) := by
    rw [hr, hm, hpi, div_coe _ (Real.exp_pos _).ne', one_mul]
  have hr0 : 0 < r := by rw [hr']; exact_mod_cast inv_pos.mpr (Real.exp_pos _)
  have hE : ∀ j, refE D s j = kP D s j * r := fun j => by
    unfold refE kP
    rw [hM]
    split
    · next h =>
      rw [hP, hr', ← EReal.coe_mul]
      unfold refS
      rw [if_pos h, hT, ← EReal.coe_sub]
      show ((Real.exp _ : ℝ) : EReal) = _
      rw [Real.exp_sub, div_eq_mul_inv]
    · rw [zero_mul]
  have hL : (∑ x : Fin 896, refE D s x.val) = (∑ k ∈ Finset.range n, kP D s k) * r := by
    rw [sum_cut hn896 (refE D s) fun k hk => by rw [hE, hpz k hk, zero_mul]]
    simp only [hE]
    exact sum_mul_nonneg n _ hp0 r
  have hL0 : (∑ k ∈ Finset.range n, kP D s k) * r ≠ 0 := by
    refine (EReal.mul_pos (lt_of_lt_of_le hpos ?_) hr0).ne'
    exact Finset.single_le_sum (f := kP D s) (fun k _ => hp0 k) (Finset.mem_range.mpr hi)
  -- the greatest weight with the scales taken in
  have hw0 : ∀ k, 0 ≤ kP D s k * sc k := fun k => mul_nonneg (hp0 k) (hsc k).le
  have hW : ∀ j, refW D sc s j = kP D s j * sc j * r := fun j => by
    unfold refW; rw [hE]; ac_rfl
  have hmg : ∀ j, mg (refW D sc s j) = kP D s j * sc j * r := fun j => by
    rw [hW]
    have h0 : 0 ≤ kP D s j * sc j * r := mul_nonneg (hw0 j) hr0.le
    exact max_eq_left (le_trans (EReal.neg_le_zero.mpr h0) h0)
  obtain ⟨i', hi', hm', hmax'⟩ := mx_at hn0 (fun j => kP D s j * sc j) hw0
  have hA : refA D sc s = mx n (fun j => kP D s j * sc j) * r := by
    unfold refA
    rw [hm']
    refine le_antisymm ((top_le _ _).mpr fun x => ?_) ?_
    · show mg (refW D sc s x.val) ≤ _
      rw [hmg]
      by_cases h : x.val < n
      · exact mul_le_mul_of_nonneg_right (hmax' _ h) hr0.le
      · rw [hpz _ (by omega), zero_mul, zero_mul]
        exact mul_nonneg (hw0 _) hr0.le
    · have := (top_le (fun x => mg (refW D sc s x.val)) _).mp le_rfl ⟨i', by omega⟩
      exact le_trans (le_of_eq (hmg i').symm) this
  have hApos : 0 < refA D sc s := by
    rw [hA, hm']
    exact EReal.mul_pos (lt_of_lt_of_le (EReal.mul_pos hpos (hsc i)) (hmax' i hi)) hr0
  have he : rExp 0 (refA D sc s) = kExp (mx n (fun j => kP D s j * sc j) * r) := by
    rw [rExp_kExp hApos.ne' (not_lt.mpr hApos.le), hA]
  unfold refO fin
  rw [he, hL, ← hr]
  rw [sum_cut hn896 (fun k => rClip (refW D sc s k * pow2 (-kExp (mx n (fun j => kP D s j * sc j) * r))) * u k) fun k hk => by
    rw [hW, hpz k hk, zero_mul, zero_mul, zero_mul, clip_eq, clip_zero, zero_mul]]
  unfold Ideal.div
  rw [if_neg hL0, if_neg hL0, exp2_eq, exp2_eq, zero_sub, mul_assoc]
  congr 1
  refine Finset.sum_congr rfl fun k _ => ?_
  rw [mul_comm, clip_eq, hW, mul_assoc]

end Cert.Val
-- ==== Proof.RefV.lean ====
module

public import proofs.«01_k».proof.Proof.Soft

/-! What the host operations of the reference leave in the buffers it returns, index by index, as functions of the three
argument arrays: the same functions as the kernel's. -/

@[expose] public section

noncomputable section

namespace Cert.ReferenceIdeal.Val

open Idealize.ShloMosaic Idealize.ShloMosaic.TcCoe Idealize.ShloMosaic.StableHlo Idealize.ShloMosaic.Pointwise Idealize.ShloMosaic.WordCmp
open Cert.ReferenceIdeal.Gen Cert.Val
open Cert.KernelIdeal.Val (rc attn am cd dq wt kScale kInv clip soft ix ix_val ix_of)

/-! ## The stages one after another -/

variable (m : (ℓ : Loc nD τ sig) → Buf (Elt Ideal) ℓ) (c : Dev nD)

/-- The buffers after each stage. -/
def W0 : Valuation τ sig (Elt Ideal) := fun b => m (c, b)
def W1 : Valuation τ sig (Elt Ideal) := after SQ (W0 m c)
def W2 : Valuation τ sig (Elt Ideal) := after SQ' (W1 m c)
def W3 : Valuation τ sig (Elt Ideal) := after SK (W2 m c)
def W4 : Valuation τ sig (Elt Ideal) := after SK' (W3 m c)
def W5 : Valuation τ sig (Elt Ideal) := after SV (W4 m c)
def W6 : Valuation τ sig (Elt Ideal) := after SV' (W5 m c)
def W7 : Valuation τ sig (Elt Ideal) := after SS (W6 m c)
def W8 : Valuation τ sig (Elt Ideal) := after SE (W7 m c)
def W9 : Valuation τ sig (Elt Ideal) := after SW (W8 m c)
def W10 : Valuation τ sig (Elt Ideal) := after SC (W9 m c)
def W11 : Valuation τ sig (Elt Ideal) := after SO (W10 m c)

/-- Two stages, one after the other. -/
theorem append (l₁ l₂ : List (HloOp τ sig (Elt Ideal))) (W : Valuation τ sig (Elt Ideal)) : after (l₁ ++ l₂) W = after l₂ (after l₁ W) := by
  induction l₁ generalizing W with
  | nil => rfl
  | cons op l ih => exact ih _

/-- The buffers the region finds are those after the last stage. -/
theorem V_eq (b : Ref sig .tc) : V m c b = W11 m c (Proc.devRef .tc b) := by
  have h : (List.flatten [hostOps0, hostOps0_1, hostOps0_2, hostOps0_3, hostOps0_4, hostOps0_5, hostOps0_6, hostOps0_7, hostOps0_8, hostOps0_9, hostOps0_10,
      hostOps0_11, hostOps0_12, hostOps0_13, hostOps0_14, hostOps0_15, hostOps0_16, hostOps0_17, hostOps0_18, hostOps0_19, hostOps0_20] : List (HloOp τ sig (Elt Ideal)))
      = SQ ++ (SQ' ++ (SK ++ (SK' ++ (SV ++ (SV' ++ (SS ++ (SE ++ (SW ++ (SC ++ SO))))))))) := by
    simp only [List.flatten_cons, List.flatten_nil, List.append_nil, List.append_assoc, SQ, SQ', SK, SK', SV, SV', SS, SE, SW, SC, SO]
  show after (List.flatten _) (W0 m c) (Proc.devRef .tc b) = _
  rw [h]
  simp only [append]
  rfl

/-- A stage leaves alone a buffer it does not write. -/
theorem keep {L : List (HloOp τ sig (Elt Ideal))} (W : Valuation τ sig (Elt Ideal)) (b : Ref sig .tc) (h : ∀ op ∈ L, Proc.devRef (τ := τ) .tc b ∉ op.writes) :
    after L W (Proc.devRef .tc b) = W (Proc.devRef .tc b) := after_of_forall_not_mem _ _ h

/-- From the codes of the values to the scores' inputs; from the scores' inputs to the results. -/
theorem to6 (b : Ref sig .tc) (h : ∀ op ∈ (SK' ++ SV ++ SV' : List (HloOp τ sig (Elt Ideal))), Proc.devRef (τ := τ) .tc b ∉ op.writes) :
    W6 m c (Proc.devRef .tc b) = W3 m c (Proc.devRef .tc b) := by
  unfold W6 W5 W4; rw [← append, ← append, ← List.append_assoc]; exact keep _ b h
/-- A buffer that the stages from the scores to the weight codes leave alone. -/
theorem to10 (b : Ref sig .tc) (h : ∀ op ∈ (SS ++ SE ++ SW ++ SC : List (HloOp τ sig (Elt Ideal))), Proc.devRef (τ := τ) .tc b ∉ op.writes) :
    W10 m c (Proc.devRef .tc b) = W6 m c (Proc.devRef .tc b) := by
  unfold W10 W9 W8 W7; rw [← append, ← append, ← append, ← List.append_assoc, ← List.append_assoc]; exact keep _ b h
/-- A buffer that the last stage leaves alone. -/
theorem to11 (b : Ref sig .tc) (h : ∀ op ∈ (SO : List (HloOp τ sig (Elt Ideal))), Proc.devRef (τ := τ) .tc b ∉ op.writes) :
    W11 m c (Proc.devRef .tc b) = W10 m c (Proc.devRef .tc b) := keep _ b h
/-- Later stages leave the buffer alone. -/
theorem keep65 : W6 m c (Proc.devRef .tc main_v65) = W5 m c (Proc.devRef .tc main_v65) := keep _ _ (by decide +kernel)
/-- Later stages leave the buffer alone. -/
theorem keep85 : W6 m c (Proc.devRef .tc main_v85) = W5 m c (Proc.devRef .tc main_v85) := keep _ _ (by decide +kernel)
/-- Later stages leave the buffer alone. -/
theorem keep60 : W6 m c (Proc.devRef .tc main_v60) = W4 m c (Proc.devRef .tc main_v60) :=
  (keep _ _ (by decide +kernel)).trans (keep _ _ (by decide +kernel))
/-- Later stages leave the buffer alone. -/
theorem keep27 : W6 m c (Proc.devRef .tc main_v27) = W2 m c (Proc.devRef .tc main_v27) :=
  (to6 m c _ (by decide +kernel)).trans (keep _ _ (by decide +kernel))
/-- Later stages leave the buffer alone. -/
theorem keep32 : W6 m c (Proc.devRef .tc main_v32) = W3 m c (Proc.devRef .tc main_v32) := to6 m c _ (by decide +kernel)
/-- Later stages leave the buffer alone. -/
theorem keep98 : W10 m c (Proc.devRef .tc main_v98) = W7 m c (Proc.devRef .tc main_v98) :=
  (keep _ _ (by decide +kernel)).trans ((keep _ _ (by decide +kernel)).trans (keep _ _ (by decide +kernel)))
/-- Later stages leave the buffer alone. -/
theorem keep114 : W10 m c (Proc.devRef .tc main_v114) = W7 m c (Proc.devRef .tc main_v114) :=
  (keep _ _ (by decide +kernel)).trans ((keep _ _ (by decide +kernel)).trans (keep _ _ (by decide +kernel)))
/-- Later stages leave the buffer alone. -/
theorem keep19 : W2 m c (Proc.devRef .tc main_v19) = W1 m c (Proc.devRef .tc main_v19) := keep _ _ (by decide +kernel)
/-- Later stages leave the buffer alone. -/
theorem keep52 : W4 m c (Proc.devRef .tc main_v52) = W3 m c (Proc.devRef .tc main_v52) := keep _ _ (by decide +kernel)
/-- Later stages leave the buffer alone. -/
theorem keep115 : W8 m c (Proc.devRef .tc main_v115) = W7 m c (Proc.devRef .tc main_v115) := keep _ _ (by decide +kernel)
/-- Later stages leave the buffer alone. -/
theorem keep139 : W10 m c (Proc.devRef .tc main_v139) = W9 m c (Proc.devRef .tc main_v139) := keep _ _ (by decide +kernel)
/-- Later stages leave the buffer alone. -/
theorem keep160 : W10 m c (Proc.devRef .tc main_v160) = W9 m c (Proc.devRef .tc main_v160) := keep _ _ (by decide +kernel)
/-- The earlier stages leave the argument alone. -/
theorem keepA1 : W2 m c (Proc.devRef .tc main_arg1) = m ((c : Thread nD τ).loc main_arg1) :=
  (keep _ _ (by decide +kernel)).trans (keep _ _ (by decide +kernel))
/-- The earlier stages leave the argument alone. -/
theorem keepA2 : W4 m c (Proc.devRef .tc main_arg2) = m ((c : Thread nD τ).loc main_arg2) :=
  (keep _ _ (by decide +kernel)).trans ((keep _ _ (by decide +kernel)).trans ((keep _ _ (by decide +kernel)).trans (keep _ _ (by decide +kernel))))

/-! ## The argument arrays by row and column number -/

def xR (b : ℕ) : ℕ → ℕ → EReal := rc (W := 4096) (rd S2x896x4096 (m ((c : Thread nD τ).loc main_arg0))) b
def kR (b : ℕ) : ℕ → ℕ → EReal := rc (W := 1024) (rd S2x896x1024 (m ((c : Thread nD τ).loc main_arg1))) b
def vR (b : ℕ) : ℕ → ℕ → EReal := rc (W := 1024) (rd S2x896x1024 (m ((c : Thread nD τ).loc main_arg2))) b

/-- An element of an argument, by row and column numbers. -/
theorem rc_at {W : ℕ} [NeZero W] (A : (⟨3, ![2, 896, W]⟩ : Shape).Idx → EReal) (b : Fin 2) (s : Fin 896) (k : Fin W) (n : ℕ) (h : k.val = n) :
    A (ix3 b s k) = rc A b.val s.val n := by
  unfold rc; rw [ix_val, ix_val, ix_of n k h.symm]

/-- Code and scale, from the exponent of a group's greatest magnitude. -/
theorem code_eq (n : ℕ) (hn : 0 < n) (f : ℕ → ℕ → EReal) (s q l : ℕ) (hl : l < n) :
    rClip (f s (n * q + l) * pow2 (-rExp (Ideal.ofBits .f32 0x04E00000#32) (am n f s q))) = cd n f s (n * q + l) := by
  unfold cd
  rw [Nat.mul_add_div hn, Nat.div_eq_of_lt hl, Nat.add_zero, kInv_eq (am_nonneg n hn f s q), clip_eq]
/-- A scale, from the exponent of a group's greatest magnitude. -/
theorem scale_eq (n : ℕ) (hn : 0 < n) (f : ℕ → ℕ → EReal) (s q : ℕ) :
    pow2 (rExp (Ideal.ofBits .f32 0x04E00000#32) (am n f s q)) = kScale (am n f s q) := (kScale_eq (am_nonneg n hn f s q)).symm

/-! ## Codes and scales of queries, keys and values -/

/-- The exponent of a group of queries, from the argument. -/
theorem x19 (b : Fin 2) (s : Fin 896) (g : Fin 128) :
    rd S2x896x128x1 (W1 m c (Proc.devRef .tc main_v19)) (ix4 b s g 0) = rExp (Ideal.ofBits .f32 0x04E00000#32) (am 32 (xR m c b.val) s.val g.val) := by
  refine (q19 (W0 m c) b s g).trans ?_
  rw [q3, ← top_am 32 (by norm_num)]
  congr 2
  funext x
  exact congrArg mg (rc_at (W := 4096) _ b s _ _ (by show g.val * 32 + x.val = _; omega))
/-- The code of a query, from the argument. -/
theorem x27 (b : Fin 2) (s : Fin 896) (g : Fin 128) (l : Fin 32) :
    rd S2x896x128x32 (W2 m c (Proc.devRef .tc main_v27)) (ix4 b s g l) = cd 32 (xR m c b.val) s.val (32 * g.val + l.val) := by
  refine (q27 (W1 m c) b s g l).trans ?_
  rw [x19, ← code_eq 32 (by norm_num) _ _ _ _ l.isLt]
  refine congrArg (fun y => rClip (y * _)) ((q1 (W0 m c) b s g l).trans ?_)
  exact rc_at (W := 4096) _ b s _ _ (by show g.val * 32 + l.val = _; omega)
/-- The scale of a group of queries, from the argument. -/
theorem x32 (b : Fin 2) (s : Fin 896) (g : Fin 128) :
    rd S2x896x128 (W3 m c (Proc.devRef .tc main_v32)) (ix3 b s g) = kScale (am 32 (xR m c b.val) s.val g.val) := by
  refine (k32 (W2 m c) b s g).trans ?_
  rw [keep19, x19, scale_eq 32 (by norm_num)]

/-- The exponent of a group of keys, from the argument. -/
theorem x52 (b : Fin 2) (s : Fin 896) (g : Fin 32) :
    rd S2x896x32x1 (W3 m c (Proc.devRef .tc main_v52)) (ix4 b s g 0) = rExp (Ideal.ofBits .f32 0x04E00000#32) (am 32 (kR m c b.val) s.val g.val) := by
  refine (k52 (W2 m c) b s g).trans ?_
  rw [k36, keepA1, ← top_am 32 (by norm_num)]
  congr 2
  funext x
  exact congrArg mg (rc_at (W := 1024) _ b s _ _ (by show g.val * 32 + x.val = _; omega))
/-- The code of a key, from the argument. -/
theorem x60 (b : Fin 2) (s : Fin 896) (g : Fin 32) (l : Fin 32) :
    rd S2x896x32x32 (W4 m c (Proc.devRef .tc main_v60)) (ix4 b s g l) = cd 32 (kR m c b.val) s.val (32 * g.val + l.val) := by
  refine (k60 (W3 m c) b s g l).trans ?_
  rw [x52, ← code_eq 32 (by norm_num) _ _ _ _ l.isLt]
  refine congrArg (fun y => rClip (y * _)) ((k34 (W2 m c) b s g l).trans ?_)
  rw [keepA1]
  exact rc_at (W := 1024) _ b s _ _ (by show g.val * 32 + l.val = _; omega)
/-- The scale of a group of keys, from the argument. -/
theorem x65 (b : Fin 2) (s : Fin 896) (g : Fin 32) :
    rd S2x896x32 (W5 m c (Proc.devRef .tc main_v65)) (ix3 b s g) = kScale (am 32 (kR m c b.val) s.val g.val) := by
  refine (v65 (W4 m c) b s g).trans ?_
  rw [keep52, x52, scale_eq 32 (by norm_num)]

/-- The exponent of a row of values, from the argument. -/
theorem x85 (b : Fin 2) (s : Fin 896) (g : Fin 8) :
    rd S2x896x8x1 (W5 m c (Proc.devRef .tc main_v85)) (ix4 b s g 0) = rExp (Ideal.ofBits .f32 0x04E00000#32) (am 128 (vR m c b.val) s.val g.val) := by
  refine (v85 (W4 m c) b s g).trans ?_
  rw [v69, keepA2, ← top_am 128 (by norm_num)]
  congr 2
  funext x
  exact congrArg mg (rc_at (W := 1024) _ b s _ _ (by show g.val * 128 + x.val = _; omega))
/-- The code of a value, from the argument. -/
theorem x93 (b : Fin 2) (s : Fin 896) (g : Fin 8) (l : Fin 128) :
    rd S2x896x8x128 (W6 m c (Proc.devRef .tc main_v93)) (ix4 b s g l) = cd 128 (vR m c b.val) s.val (128 * g.val + l.val) := by
  refine (v93 (W5 m c) b s g l).trans ?_
  rw [x85, ← code_eq 128 (by norm_num) _ _ _ _ l.isLt]
  refine congrArg (fun y => rClip (y * _)) ((v67 (W4 m c) b s g l).trans ?_)
  rw [keepA2]
  exact rc_at (W := 1024) _ b s _ _ (by show g.val * 128 + l.val = _; omega)
/-- The scale of a row of values, from the argument. -/
theorem x98 (b : Fin 2) (s : Fin 896) (g : Fin 8) :
    rd S2x896x8 (W7 m c (Proc.devRef .tc main_v98)) (ix3 b s g) = kScale (am 128 (vR m c b.val) s.val g.val) := by
  refine (s98 (W6 m c) b s g).trans ?_
  rw [keep85, x85, scale_eq 128 (by norm_num)]
/-- The scale of a row of values, head before row. -/
theorem x115 (b : Fin 2) (s : Fin 896) (g : Fin 8) :
    rd S2x8x896 (W7 m c (Proc.devRef .tc main_v115)) (ix3 b g s) = kScale (am 128 (vR m c b.val) s.val g.val) := by
  refine (s115 (W6 m c) b g s).trans ?_
  rw [keep85, x85, scale_eq 128 (by norm_num)]

/-! ## The attention -/

/-- The product of the query at row `s`, head `4 g + h`, with key `j` of head `g`. -/
def dt (b g h s j : ℕ) : EReal := ∑ x : Fin 128, dq 32 (kR m c b) j (128 * g + x.val) * dq 32 (xR m c b) s (128 * (4 * g + h) + x.val)
/-- The scale of value `j` of head `g`. -/
def sv (b g j : ℕ) : EReal := kScale (am 128 (vR m c b) j g)

/-- A selection by the mask. -/
theorem sle_sel {α : Type} (s j : Fin 896) (u v : α) :
    Scalar.select (IntOp.cmpi .sle (BitVec.ofNat 32 j.val) (BitVec.ofNat 32 s.val)) u v = if j.val ≤ s.val then u else v := by
  unfold Scalar.select
  exact if_congr (cmpi_sle_ofNat_eq_one_iff (by omega) (by omega)) rfl rfl

/-- The masked scores, from the arguments. -/
theorem x132 (b : Fin 2) (g : Fin 8) (h : Fin 4) (s j : Fin 896) :
    rd S2x8x4x896x896 (W7 m c (Proc.devRef .tc main_v132)) (ix5 b g h s j) = refS (dt m c b.val g.val h.val s.val) s.val j.val := by
  refine (s132 (W6 m c) b g h s j).trans ?_
  rw [sle_sel, cbot]
  unfold refS dt
  refine if_congr Iff.rfl (congrArg cap (Finset.sum_congr rfl fun x _ => ?_)) rfl
  rw [keep27, keep32, keep60, keep65, x27, x32, x60, x65, mul_comm]
  have e1 : 128 * g.val + x.val = 32 * (g.val * 4 + x.val / 32) + x.val % 32 := by omega
  have e2 : 128 * (4 * g.val + h.val) + x.val = 32 * (g.val * 16 + h.val * 4 + x.val / 32) + x.val % 32 := by omega
  have hl : x.val % 32 < 32 := Nat.mod_lt _ (by norm_num)
  unfold dq
  rw [e1, e2, Nat.mul_add_div (by norm_num), Nat.mul_add_div (by norm_num), Nat.div_eq_of_lt hl, Nat.add_zero, Nat.add_zero]
/-- The exponentials, from the arguments. -/
theorem x138 (b : Fin 2) (g : Fin 8) (h : Fin 4) (s j : Fin 896) :
    rd S2x8x4x896x896 (W8 m c (Proc.devRef .tc main_v138)) (ix5 b g h s j) = refE (dt m c b.val g.val h.val s.val) s.val j.val := by
  refine (e138 (W7 m c) b g h s j).trans ?_
  rw [show W7 m c (Proc.devRef .tc main_v131) (ix2 s j) = _ from s131 (W6 m c) s j, sle_sel, ofBits_zero]
  exact if_congr Iff.rfl (congrArg Ideal.exp (congrArg₂ (· - ·) (x132 m c b g h s j) (congrArg (top 896) (funext fun x => x132 m c b g h s x)))) rfl
/-- The weights with the value scales, from the arguments. -/
theorem x142 (b : Fin 2) (g : Fin 8) (h : Fin 4) (s j : Fin 896) :
    rd S2x8x4x896x896 (W9 m c (Proc.devRef .tc main_v142)) (ix5 b g h s j) = refW (dt m c b.val g.val h.val s.val) (sv m c b.val g.val) s.val j.val := by
  refine (w142 (W8 m c) b g h s j).trans ?_
  rw [x138, keep115, x115]
  rfl
/-- The exponent of a query's weights, from the arguments. -/
theorem x160 (b : Fin 2) (g : Fin 8) (h : Fin 4) (s : Fin 896) :
    rd S2x8x4x896x1 (W9 m c (Proc.devRef .tc main_v160)) (ix5 b g h s 0) = rExp 0 (refA (dt m c b.val g.val h.val s.val) (sv m c b.val g.val) s.val) := by
  refine (w160 (W8 m c) b g h s).trans ?_
  rw [w144]
  refine congrArg (rExp 0) (congrArg (top 896) (funext fun x => congrArg mg ?_))
  rw [x138, keep115, x115]
  rfl
/-- The sum of a query's exponentials, from the arguments. -/
theorem x139 (b : Fin 2) (g : Fin 8) (h : Fin 4) (s : Fin 896) :
    rd S2x8x4x896 (W9 m c (Proc.devRef .tc main_v139)) (ix4 b g h s) = ∑ x : Fin 896, refE (dt m c b.val g.val h.val s.val) s.val x.val := by
  exact (w139 (W8 m c) b g h s).trans (Finset.sum_congr rfl fun x _ => x138 m c b g h s x)
/-- The codes of the weights, from the arguments. -/
theorem x168 (b : Fin 2) (g : Fin 8) (h : Fin 4) (s j : Fin 896) :
    rd S2x8x4x896x896 (W10 m c (Proc.devRef .tc main_v168)) (ix5 b g h s j) =
      rClip (refW (dt m c b.val g.val h.val s.val) (sv m c b.val g.val) s.val j.val * pow2 (-rExp 0 (refA (dt m c b.val g.val h.val s.val) (sv m c b.val g.val) s.val))) := by
  refine (c168 (W9 m c) b g h s j).trans ?_
  rw [x142, x160]
/-- The value codes, head before row. -/
theorem x114 (b : Fin 2) (g : Fin 8) (j : Fin 896) (l : Fin 128) :
    rd S2x8x896x128 (W7 m c (Proc.devRef .tc main_v114)) (ix4 b g j l) = cd 128 (vR m c b.val) j.val (128 * g.val + l.val) := by
  refine (s114 (W6 m c) b g j l).trans ?_
  rw [x93]

/-- The reference's attention result, element by element. -/
theorem x184 (b : Fin 2) (s : Fin 896) (y : Fin 4096) :
    rd S2x896x4096 (W11 m c (Proc.devRef .tc main_v184)) (ix3 b s y) = attn (xR m c b.val) (kR m c b.val) (vR m c b.val) s.val y.val := by
  refine (o184 (W10 m c) b s y).trans ?_
  rw [keep139, keep160, keep114, x139, x160]
  rw [Finset.sum_congr rfl fun x _ => congrArg₂ (· * ·) (x168 m c b ⟨y.val / 512, by omega⟩ ⟨y.val / 128 % 4, by omega⟩ s x)
    (x114 m c b ⟨y.val / 512, by omega⟩ x ⟨y.val % 128, by omega⟩)]
  have hy : 4 * (y.val / 512) + y.val / 128 % 4 = y.val / 128 := by omega
  refine (refO_eq (dt m c b.val (y.val / 512) (y.val / 128 % 4) s.val) (sv m c b.val (y.val / 512))
    (fun j => cd 128 (vR m c b.val) j (128 * (y.val / 512) + y.val % 128)) (fun j => kScale_pos _) s.val s.isLt).trans ?_
  have hp : kP (dt m c b.val (y.val / 512) (y.val / 128 % 4) s.val) s.val
      = wt (fun d => dq 32 (xR m c b.val) s.val (128 * (y.val / 128) + d)) (fun j d => dq 32 (kR m c b.val) j (128 * (y.val / 512) + d)) s.val := by
    funext j
    unfold kP wt dt
    rw [hy]
  rw [hp]
  rfl

/-! ## The results -/

/-- The reference's attention result, as a function of the arguments. -/
theorem r184 : V m c main_v184 = fun i : S2x896x4096.Idx => (attn (xR m c (i 0).val) (kR m c (i 0).val) (vR m c (i 0).val) (i 1).val (i 2).val : EReal) := by
  rw [V_eq]
  funext i
  exact (congrArg _ (ix3_eta i).symm).trans (x184 m c (i 0) (i 1) (i 2))
/-- The reference's query scales, as a function of the arguments. -/
theorem r32 : V m c main_v32 = fun i : S2x896x128.Idx => (kScale (am 32 (xR m c (i 0).val) (i 1).val (i 2).val) : EReal) := by
  rw [V_eq, to11 m c _ (by decide +kernel), to10 m c _ (by decide +kernel), keep32]
  funext i
  exact (congrArg _ (ix3_eta i).symm).trans (x32 m c (i 0) (i 1) (i 2))
/-- The reference's key scales, as a function of the arguments. -/
theorem r65 : V m c main_v65 = fun i : S2x896x32.Idx => (kScale (am 32 (kR m c (i 0).val) (i 1).val (i 2).val) : EReal) := by
  rw [V_eq, to11 m c _ (by decide +kernel), to10 m c _ (by decide +kernel), keep65]
  funext i
  exact (congrArg _ (ix3_eta i).symm).trans (x65 m c (i 0) (i 1) (i 2))
/-- The reference's value scales, as a function of the arguments. -/
theorem r98 : V m c main_v98 = fun i : S2x896x8.Idx => (kScale (am 128 (vR m c (i 0).val) (i 1).val (i 2).val) : EReal) := by
  rw [V_eq, to11 m c _ (by decide +kernel), keep98]
  funext i
  exact (congrArg _ (ix3_eta i).symm).trans (x98 m c (i 0) (i 1) (i 2))
/-- A query's code before the cast to fp8. -/
theorem c185 (b : Fin 2) (s : Fin 896) (y : Fin 4096) :
    rd S2x896x4096 (W11 m c (Proc.devRef .tc main_v185)) (ix3 b s y) = cd 32 (xR m c b.val) s.val y.val := by
  refine (o185 (W10 m c) b s y).trans ?_
  rw [to10 m c _ (by decide +kernel), keep27, x27, Nat.div_add_mod]
/-- A key's code before the cast to fp8. -/
theorem c186 (b : Fin 2) (s : Fin 896) (y : Fin 1024) :
    rd S2x896x1024 (W11 m c (Proc.devRef .tc main_v186)) (ix3 b s y) = cd 32 (kR m c b.val) s.val y.val := by
  refine (o186 (W10 m c) b s y).trans ?_
  rw [to10 m c _ (by decide +kernel), keep60, x60, Nat.div_add_mod]
/-- A value's code before the cast to fp8. -/
theorem c187 (b : Fin 2) (s : Fin 896) (y : Fin 1024) :
    rd S2x896x1024 (W11 m c (Proc.devRef .tc main_v187)) (ix3 b s y) = cd 128 (vR m c b.val) s.val y.val := by
  refine (o187 (W10 m c) b s y).trans ?_
  rw [to10 m c _ (by decide +kernel), x93, Nat.div_add_mod]
/-- The query codes before the cast to fp8, as a function of the arguments. -/
theorem r185 : V m c main_v185 = fun i : S2x896x4096.Idx => (cd 32 (xR m c (i 0).val) (i 1).val (i 2).val : EReal) := by
  rw [V_eq]
  funext i
  exact (congrArg _ (ix3_eta i).symm).trans (c185 m c (i 0) (i 1) (i 2))
/-- The key codes before the cast to fp8, as a function of the arguments. -/
theorem r186 : V m c main_v186 = fun i : S2x896x1024.Idx => (cd 32 (kR m c (i 0).val) (i 1).val (i 2).val : EReal) := by
  rw [V_eq]
  funext i
  exact (congrArg _ (ix3_eta i).symm).trans (c186 m c (i 0) (i 1) (i 2))
/-- The value codes before the cast to fp8, as a function of the arguments. -/
theorem r187 : V m c main_v187 = fun i : S2x896x1024.Idx => (cd 128 (vR m c (i 0).val) (i 1).val (i 2).val : EReal) := by
  rw [V_eq]
  funext i
  exact (congrArg _ (ix3_eta i).symm).trans (c187 m c (i 0) (i 1) (i 2))

end Cert.ReferenceIdeal.Val
-- ==== Proof.Alg.lean ====
module

public import proofs.«01_k».proof.Proof.RefV
public import proofs.«01_k».proof.Defs

/-! The kernel and the reference leave equal results. -/

@[expose] public section

noncomputable section

namespace Cert.ReferenceIdeal.Val

open Idealize.ShloMosaic Idealize.ShloMosaic.TcCoe Idealize.SL.Sem Cert.ReferenceIdeal.Gen Idealize.ShloMosaic.Pointwise

variable (m : (ℓ : Loc nD τ sig) → Buf (Elt Ideal) ℓ) (c : Dev nD)

/-! ## The last step of the reference stores the codes -/

/-- Every window of the casting call is its whole array. -/
theorem idx0 : ∀ t : Fin cfg0.N,
    (win0_0.index t 0 = 0 ∧ win0_0.index t 1 = 0 ∧ win0_0.index t 2 = 0) ∧ (win0_1.index t 0 = 0 ∧ win0_1.index t 1 = 0 ∧ win0_1.index t 2 = 0)
    ∧ (win0_2.index t 0 = 0 ∧ win0_2.index t 1 = 0 ∧ win0_2.index t 2 = 0) ∧ (win0_3.index t 0 = 0 ∧ win0_3.index t 1 = 0 ∧ win0_3.index t 2 = 0)
    ∧ (win0_4.index t 0 = 0 ∧ win0_4.index t 1 = 0 ∧ win0_4.index t 2 = 0) ∧ (win0_5.index t 0 = 0 ∧ win0_5.index t 1 = 0 ∧ win0_5.index t 2 = 0) :=
  (by decide +kernel : ∀ t : Fin grid0.N, _)
/-- The casting call's first result is its first argument. -/
theorem reg3 (A : S2x896x4096.Idx → EReal) (hA : V m c main_v185 = A) : (dats m 0 c).arrAt 3 cfg0.N = A := by
  have hb : ∀ t, iblk m c 0 t = ((cfg0.win 0).blk t).view.read (Elt Ideal) A := fun t => congrArg (((cfg0.win 0).blk t).view.read (Elt Ideal)) hA
  refine (dats m 0 c).arrAt_eq_of_cover 3 _ (fun t hf => ?_) (fun i => ?_)
  · obtain ⟨h0, h1, h2⟩ := (idx0 t).1
    obtain ⟨g0, g1, g2⟩ := (idx0 t).2.2.2.1
    rw [Value.flushed3, hb]
    generalize iblk m c _ _ = B1
    generalize iblk m c _ _ = B2
    funext y
    rw [View.read_apply]
    refine (Value.canon3_eq _ _).trans ?_
    show A _ = A _
    refine congrArg A (funext fun a => Fin.ext ?_)
    fin_cases a
    · show win0_0.index t 0 * 2 + 1 * (0 + 1 * (y 0).val) = win0_3.index t 0 * 2 + 1 * (y 0).val; rw [h0, g0]; omega
    · show win0_0.index t 1 * 896 + 1 * (0 + 1 * (y 1).val) = win0_3.index t 1 * 896 + 1 * (y 1).val; rw [h1, g1]; omega
    · show win0_0.index t 2 * 4096 + 1 * (0 + 1 * (y 2).val) = win0_3.index t 2 * 4096 + 1 * (y 2).val; rw [h2, g2]; omega
  · obtain ⟨g0, g1, g2⟩ := (idx0 t0_0).2.2.2.1
    have e : ((cfg0.win 3).blk t0_0).view.emb (ix3 (i 0) (i 1) (i 2) : S2x896x4096.Idx) = i := by
      funext a
      apply Fin.ext
      fin_cases a
      · show win0_3.index t0_0 0 * 2 + 1 * (i 0).val = (i 0).val; rw [g0]; omega
      · show win0_3.index t0_0 1 * 896 + 1 * (i 1).val = (i 1).val; rw [g1]; omega
      · show win0_3.index t0_0 2 * 4096 + 1 * (i 2).val = (i 2).val; rw [g2]; omega
    exact ⟨t0_0, flush0_3 _, e ▸ View.emb_mem_set ((cfg0.win 3).blk t0_0).view (ix3 (i 0) (i 1) (i 2) : S2x896x4096.Idx)⟩
/-- The casting call's second result is its second argument. -/
theorem reg4 (A : S2x896x1024.Idx → EReal) (hA : V m c main_v186 = A) : (dats m 0 c).arrAt 4 cfg0.N = A := by
  have hb : ∀ t, iblk m c 1 t = ((cfg0.win 1).blk t).view.read (Elt Ideal) A := fun t => congrArg (((cfg0.win 1).blk t).view.read (Elt Ideal)) hA
  refine (dats m 0 c).arrAt_eq_of_cover 4 _ (fun t hf => ?_) (fun i => ?_)
  · obtain ⟨h0, h1, h2⟩ := (idx0 t).2.1
    obtain ⟨g0, g1, g2⟩ := (idx0 t).2.2.2.2.1
    rw [Value.flushed4, hb]
    generalize iblk m c _ _ = B1
    generalize iblk m c _ _ = B2
    funext y
    rw [View.read_apply]
    refine (Value.canon4_eq _ _).trans ?_
    show A _ = A _
    refine congrArg A (funext fun a => Fin.ext ?_)
    fin_cases a
    · show win0_1.index t 0 * 2 + 1 * (0 + 1 * (y 0).val) = win0_4.index t 0 * 2 + 1 * (y 0).val; rw [h0, g0]; omega
    · show win0_1.index t 1 * 896 + 1 * (0 + 1 * (y 1).val) = win0_4.index t 1 * 896 + 1 * (y 1).val; rw [h1, g1]; omega
    · show win0_1.index t 2 * 1024 + 1 * (0 + 1 * (y 2).val) = win0_4.index t 2 * 1024 + 1 * (y 2).val; rw [h2, g2]; omega
  · obtain ⟨g0, g1, g2⟩ := (idx0 t0_0).2.2.2.2.1
    have e : ((cfg0.win 4).blk t0_0).view.emb (ix3 (i 0) (i 1) (i 2) : S2x896x1024.Idx) = i := by
      funext a
      apply Fin.ext
      fin_cases a
      · show win0_4.index t0_0 0 * 2 + 1 * (i 0).val = (i 0).val; rw [g0]; omega
      · show win0_4.index t0_0 1 * 896 + 1 * (i 1).val = (i 1).val; rw [g1]; omega
      · show win0_4.index t0_0 2 * 1024 + 1 * (i 2).val = (i 2).val; rw [g2]; omega
    exact ⟨t0_0, flush0_4 _, e ▸ View.emb_mem_set ((cfg0.win 4).blk t0_0).view (ix3 (i 0) (i 1) (i 2) : S2x896x1024.Idx)⟩
/-- The casting call's third result is its third argument. -/
theorem reg5 (A : S2x896x1024.Idx → EReal) (hA : V m c main_v187 = A) : (dats m 0 c).arrAt 5 cfg0.N = A := by
  have hb : ∀ t, iblk m c 2 t = ((cfg0.win 2).blk t).view.read (Elt Ideal) A := fun t => congrArg (((cfg0.win 2).blk t).view.read (Elt Ideal)) hA
  refine (dats m 0 c).arrAt_eq_of_cover 5 _ (fun t hf => ?_) (fun i => ?_)
  · obtain ⟨h0, h1, h2⟩ := (idx0 t).2.2.1
    obtain ⟨g0, g1, g2⟩ := (idx0 t).2.2.2.2.2
    rw [Value.flushed5, hb]
    generalize iblk m c _ _ = B1
    generalize iblk m c _ _ = B2
    funext y
    rw [View.read_apply]
    refine (Value.canon5_eq _ _).trans ?_
    show A _ = A _
    refine congrArg A (funext fun a => Fin.ext ?_)
    fin_cases a
    · show win0_2.index t 0 * 2 + 1 * (0 + 1 * (y 0).val) = win0_5.index t 0 * 2 + 1 * (y 0).val; rw [h0, g0]; omega
    · show win0_2.index t 1 * 896 + 1 * (0 + 1 * (y 1).val) = win0_5.index t 1 * 896 + 1 * (y 1).val; rw [h1, g1]; omega
    · show win0_2.index t 2 * 1024 + 1 * (0 + 1 * (y 2).val) = win0_5.index t 2 * 1024 + 1 * (y 2).val; rw [h2, g2]; omega
  · obtain ⟨g0, g1, g2⟩ := (idx0 t0_0).2.2.2.2.2
    have e : ((cfg0.win 5).blk t0_0).view.emb (ix3 (i 0) (i 1) (i 2) : S2x896x1024.Idx) = i := by
      funext a
      apply Fin.ext
      fin_cases a
      · show win0_5.index t0_0 0 * 2 + 1 * (i 0).val = (i 0).val; rw [g0]; omega
      · show win0_5.index t0_0 1 * 896 + 1 * (i 1).val = (i 1).val; rw [g1]; omega
      · show win0_5.index t0_0 2 * 1024 + 1 * (i 2).val = (i 2).val; rw [g2]; omega
    exact ⟨t0_0, flush0_5 _, e ▸ View.emb_mem_set ((cfg0.win 5).blk t0_0).view (ix3 (i 0) (i 1) (i 2) : S2x896x1024.Idx)⟩

end Cert.ReferenceIdeal.Val

namespace Cert.Val

open Idealize.ShloMosaic Idealize.ShloMosaic.TcCoe Idealize.SL.Sem
open Cert.KernelIdeal.Val (xA kA vA rc)
open Cert.ReferenceIdeal.Val (xR kR vR)

/-- From memories that agree on the arguments, kernel and reference both run, end with equal results, and leave the arguments
unchanged. -/
theorem algebraic : Cert.algebraic_KernelIdeal_ReferenceIdeal := by
  intro m g m' g' _ hargs
  refine ⟨fun c => (KernelIdeal.Gen.dats m 0 c).arrAt 3 KernelIdeal.cfg0.N, fun c => (KernelIdeal.Gen.dats m 0 c).arrAt 4 KernelIdeal.cfg0.N,
    fun c => (KernelIdeal.Gen.dats m 0 c).arrAt 5 KernelIdeal.cfg0.N, fun c => (KernelIdeal.Gen.dats m 0 c).arrAt 6 KernelIdeal.cfg0.N,
    fun c => (KernelIdeal.Gen.dats m 0 c).arrAt 7 KernelIdeal.cfg0.N, fun c => (KernelIdeal.Gen.dats m 0 c).arrAt 8 KernelIdeal.cfg0.N,
    fun c => (KernelIdeal.Gen.dats m 0 c).arrAt 9 KernelIdeal.cfg0.N, KernelIdeal.Value.run_blocks m g, ?_⟩
  refine (θ_run ReferenceIdeal.defs _ _).mono (fun r h c => ?_) (ReferenceIdeal.Gen.run_main m' g')
  have hx : ∀ b, xR m' c b = rc (xA m c) b := fun b => by unfold xR xA ReferenceIdeal.Val.rd; rw [(hargs c).1]
  have hk : ∀ b, kR m' c b = rc (kA m c) b := fun b => by unfold kR kA ReferenceIdeal.Val.rd; rw [(hargs c).2.1]
  have hv : ∀ b, vR m' c b = rc (vA m c) b := fun b => by unfold vR vA ReferenceIdeal.Val.rd; rw [(hargs c).2.2]
  have host := fun b hb => (h c).2 b hb
  refine ⟨?_, ?_, ?_, ?_, ?_, ?_, ?_, ReferenceIdeal.Value.kept_main_arg0 m' r h c, ReferenceIdeal.Value.kept_main_arg1 m' r h c,
    ReferenceIdeal.Value.kept_main_arg2 m' r h c⟩
  · refine (host ReferenceIdeal.main_v184 (Pipeline.mem_restRefs_of _ (by decide) (by decide))).trans ?_
    rw [ReferenceIdeal.Val.r184]
    refine Eq.trans ?_ (KernelIdeal.Val.arr3 m c).symm
    funext i
    rw [hx, hk, hv]
  · refine (ReferenceIdeal.Value.post3 m' r h c).trans ?_
    rw [ReferenceIdeal.Val.reg3 m' c _ (ReferenceIdeal.Val.r185 m' c)]
    refine Eq.trans ?_ (KernelIdeal.Val.arr4 m c).symm
    funext i
    rw [hx]
  · refine (host ReferenceIdeal.main_v32 (Pipeline.mem_restRefs_of _ (by decide) (by decide))).trans ?_
    rw [ReferenceIdeal.Val.r32]
    refine Eq.trans ?_ (KernelIdeal.Val.arr5 m c).symm
    funext i
    rw [hx]
  · refine (ReferenceIdeal.Value.post4 m' r h c).trans ?_
    rw [ReferenceIdeal.Val.reg4 m' c _ (ReferenceIdeal.Val.r186 m' c)]
    refine Eq.trans ?_ (KernelIdeal.Val.arr6 m c).symm
    funext i
    rw [hk]
  · refine (host ReferenceIdeal.main_v65 (Pipeline.mem_restRefs_of _ (by decide) (by decide))).trans ?_
    rw [ReferenceIdeal.Val.r65]
    refine Eq.trans ?_ (KernelIdeal.Val.arr7 m c).symm
    funext i
    rw [hk]
  · refine (ReferenceIdeal.Value.post5 m' r h c).trans ?_
    rw [ReferenceIdeal.Val.reg5 m' c _ (ReferenceIdeal.Val.r187 m' c)]
    refine Eq.trans ?_ (KernelIdeal.Val.arr8 m c).symm
    funext i
    rw [hv]
  · refine (host ReferenceIdeal.main_v98 (Pipeline.mem_restRefs_of _ (by decide) (by decide))).trans ?_
    rw [ReferenceIdeal.Val.r98]
    refine Eq.trans ?_ (KernelIdeal.Val.arr9 m c).symm
    funext i
    rw [hv]

end Cert.Val
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Gen.KernelIdeal.Value
public import proofs.«01_k».proof.Proof.Gen.ReferenceIdeal.Value
public import proofs.«01_k».proof.Proof.Alg
public import Idealize.ShloMosaic.PureOps.IdealRules
public import Idealize.ShloMosaic.Lib.Bf16Pair

@[expose] public section

namespace Cert.Proof

open Idealize.ShloMosaic

/-- The four constants that are named over the extended reals have the printed words as their roundings, and a word of two bf16 rows
    is read as its two rows. -/
theorem preserves : Cert.preserves_Kernel_KernelIdeal :=
  ⟨IdealRules.named_const.statement Cert.KernelIdeal.κ "inv_fp8_max" .f32 0x3B124925#32 _ rfl,
   IdealRules.named_const.statement Cert.KernelIdeal.κ "inv_ln2" .f32 0x3FB8AA3B#32 _ rfl,
   IdealRules.bf16_pair.statement Cert.KernelIdeal.S128x128 Cert.KernelIdeal.S64x128,
   IdealRules.named_const.statement Cert.KernelIdeal.κ "to_cap" .f32 0x3AE7B46A#32 _ rfl,
   IdealRules.named_const.statement Cert.KernelIdeal.κ "to_exp2" .f32 0x429044FE#32 _ rfl⟩

/-- All five claims: the three frames, the named constants, and the equality of the results. -/
theorem claim : Cert.Claim :=
  ⟨Cert.Kernel.Gen.facts, Cert.KernelIdeal.Gen.facts, Cert.ReferenceIdeal.Gen.facts,
   fun m ρ _ => Cert.Kernel.Gen.frame m ρ, fun m ρ _ => Cert.KernelIdeal.Gen.frame m ρ, fun m ρ _ => Cert.ReferenceIdeal.Gen.frame m ρ, preserves,
   Cert.Val.algebraic⟩

end Cert.Proof
